-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v113) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x16 : Shape := ⟨2, ![4096, 16]⟩
abbrev S4x2048 : Shape := ⟨2, ![4, 2048]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x16 : S_.BroadcastsInDim S4096x16 (![] : Fin 0 → Fin S4096x16.rank)
  reducesTo_S4096x16_S_d0_1 : S4096x16.ReducesTo [0, 1] S_

variable [Facts]

def fn {F : FTy → Type} [FloatOps F] (main_arg0 : FVec F S4x2048x4096 .f32) (main_arg1 : FVec F S4096x16 .f32) (main_arg2 : FVec F S4x2048 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  main_v8
-- ==== Kernel.lean ====
abbrev S4x2048x4096 : Shape := ⟨3, ![4, 2048, 4096]⟩
abbrev S4096x16 : Shape := ⟨2, ![4096, 16]⟩
abbrev S4x2048 : Shape := ⟨2, ![4, 2048]⟩
abbrev S4x1x2048 : Shape := ⟨3, ![4, 1, 2048]⟩
abbrev S4x2560x2048 : Shape := ⟨3, ![4, 2560, 2048]⟩
abbrev S1x1 : Shape := ⟨2, ![1, 1]⟩
abbrev S1x512x4096 : Shape := ⟨3, ![1, 512, 4096]⟩
abbrev S1x1x512 : Shape := ⟨3, ![1, 1, 512]⟩
abbrev S1x2560x512 : Shape := ⟨3, ![1, 2560, 512]⟩
abbrev S16x1 : Shape := ⟨2, ![16, 1]⟩
abbrev S512x4096 : Shape := ⟨2, ![512, 4096]⟩
abbrev S16x512 : Shape := ⟨2, ![16, 512]⟩
abbrev S512 : Shape := ⟨1, ![512]⟩
abbrev S1x512 : Shape := ⟨2, ![1, 512]⟩
abbrev S1 : Shape := ⟨1, ![1]⟩
abbrev S1x1x1 : Shape := ⟨3, ![1, 1, 1]⟩
abbrev S512x512 : Shape := ⟨2, ![512, 512]⟩
abbrev S16 : Shape := ⟨1, ![16]⟩
abbrev S1x16x1 : Shape := ⟨3, ![1, 16, 1]⟩
abbrev S160x512 : Shape := ⟨2, ![160, 512]⟩
abbrev S1x160x512 : Shape := ⟨3, ![1, 160, 512]⟩
abbrev S4x16x160x2048 : Shape := ⟨4, ![4, 16, 160, 2048]⟩
abbrev S4x2048x16x160 : Shape := ⟨4, ![4, 2048, 16, 160]⟩
abbrev S_ : Shape := ⟨0, ![]⟩

abbrev nBuf : Space → Nat
  | .hbm => 18
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x16, .f32⟩
  | .hbm, ⟨2, _⟩ => ⟨S4x2048, .f32⟩
  | .hbm, ⟨3, _⟩ => ⟨S4x1x2048, .f32⟩
  | .hbm, ⟨4, _⟩ => ⟨S4x2560x2048, .f32⟩
  | .hbm, ⟨5, _⟩ => ⟨S4x2560x2048, .f32⟩
  | .hbm, ⟨6, _⟩ => ⟨S1x1, .f32⟩
  | .hbm, ⟨7, _⟩ => ⟨S1x1, .f32⟩
  | .hbm, ⟨8, _⟩ => ⟨S4x16x160x2048, .f32⟩
  | .hbm, ⟨9, _⟩ => ⟨S4x2048x16x160, .f32⟩
  | .hbm, ⟨10, _⟩ => ⟨S4x16x160x2048, .f32⟩
  | .hbm, ⟨11, _⟩ => ⟨S4x2048x16x160, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x512x4096, .f32⟩
  | .local _ .vmem, ⟨1, _⟩ => ⟨S1x512x4096, .f32⟩
  | .local _ .vmem, ⟨2, _⟩ => ⟨S4096x16, .f32⟩
  | .local _ .vmem, ⟨3, _⟩ => ⟨S1x1x512, .f32⟩
  | .local _ .vmem, ⟨4, _⟩ => ⟨S1x1x512, .f32⟩
  | .local _ .vmem, ⟨5, _⟩ => ⟨S1x2560x512, .f32⟩
  | .local _ .vmem, ⟨6, _⟩ => ⟨S1x2560x512, .f32⟩
  | .local _ .vmem, ⟨7, _⟩ => ⟨S1x2560x512, .f32⟩
  | .local _ .vmem, ⟨8, _⟩ => ⟨S1x2560x512, .f32⟩
  | .local _ .vmem, ⟨9, _⟩ => ⟨S1x1, .f32⟩
  | .local _ .vmem, ⟨10, _⟩ => ⟨S1x1, .f32⟩
  | .local _ .vmem, ⟨11, _⟩ => ⟨S16x1, .f32⟩
  | .local _ .vmem, ⟨12, _⟩ => ⟨S16x1, .f32⟩
  | .local _ .vmem, ⟨13, _⟩ => ⟨S16x1, .f32⟩
  | .local _ .vmem, ⟨14, _⟩ => ⟨S16x1, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg1 : BitVec 32 := BitVec.ofNat 32 (i 1).val
  let c3_i32 : BitVec 32 := 3#32
  let v141 : BitVec 1 := Scalar.cmpi .eq arg1 c3_i32
  let v142 : BitVec 32 := Scalar.extui v141
  let c0_i32_60 : BitVec 32 := 0#32
  let v143 : BitVec 1 := Scalar.cmpi .ne v142 c0_i32_60
  v143

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2560x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2560x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S4x2048x4096 : Shape := ⟨3, ![4, 2048, 4096]⟩
abbrev S4096x16 : Shape := ⟨2, ![4096, 16]⟩
abbrev S4x2048 : Shape := ⟨2, ![4, 2048]⟩
abbrev S4x2048x16 : Shape := ⟨3, ![4, 2048, 16]⟩
abbrev S_ : Shape := ⟨0, ![]⟩
abbrev S4x2048x1 : Shape := ⟨3, ![4, 2048, 1]⟩
abbrev S4x2048x2 : Shape := ⟨3, ![4, 2048, 2]⟩
abbrev S1x1x16 : Shape := ⟨3, ![1, 1, 16]⟩
abbrev S4x16 : Shape := ⟨2, ![4, 16]⟩
abbrev S4x2049x16 : Shape := ⟨3, ![4, 2049, 16]⟩
abbrev S4x1x16 : Shape := ⟨3, ![4, 1, 16]⟩
abbrev S1x1x160 : Shape := ⟨3, ![1, 1, 160]⟩
abbrev S4x2048x160 : Shape := ⟨3, ![4, 2048, 160]⟩
abbrev S4x2048x1x1 : Shape := ⟨4, ![4, 2048, 1, 1]⟩
abbrev S4x2048x16x1 : Shape := ⟨4, ![4, 2048, 16, 1]⟩
abbrev S4x2048x1x160 : Shape := ⟨4, ![4, 2048, 1, 160]⟩
abbrev S4x2048x16x160 : Shape := ⟨4, ![4, 2048, 16, 160]⟩

abbrev nBuf : Space → Nat
  | .hbm => 182
  | .vmem => 0
  | .smem => 0
  | _ => 0

abbrev hbmTy0_0 (i : Nat) : BufTy := match i % 128 with
  | 0 => ⟨S4x2048x4096, .f32⟩
  | 1 => ⟨S4096x16, .f32⟩
  | 2 => ⟨S4x2048, .f32⟩
  | 3 => ⟨S4x2048x16, .f32⟩
  | 4 => ⟨S_, .f32⟩
  | 5 => ⟨S4x2048, .f32⟩
  | 6 => ⟨S_, .f32⟩
  | 7 => ⟨S4x2048, .f32⟩
  | 8 => ⟨S4x2048, .f32⟩
  | 9 => ⟨S4x2048x1, .f32⟩
  | 10 => ⟨S4x2048x16, .f32⟩
  | 11 => ⟨S4x2048x16, .f32⟩
  | 12 => ⟨S4x2048x16, .f32⟩
  | 13 => ⟨S_, .f32⟩
  | 14 => ⟨S4x2048, .f32⟩
  | 15 => ⟨S4x2048x1, .f32⟩
  | 16 => ⟨S4x2048x16, .f32⟩
  | 17 => ⟨S4x2048x16, .f32⟩
  | 18 => ⟨S4x2048x2, .f32⟩
  | 19 => ⟨S4x2048x2, .i32⟩
  | 20 => ⟨S4x2048x1, .f32⟩
  | 21 => ⟨S4x2048, .f32⟩
  | 22 => ⟨S4x2048x1, .f32⟩
  | 23 => ⟨S4x2048, .f32⟩
  | 24 => ⟨S4x2048x1, .i32⟩
  | 25 => ⟨S4x2048, .i32⟩
  | 26 => ⟨S4x2048x1, .i32⟩
  | 27 => ⟨S4x2048, .i32⟩
  | 28 => ⟨S4x2048x1, .i32⟩
  | 29 => ⟨S1x1x16, .i32⟩
  | 30 => ⟨S4x2048x16, .i32⟩
  | 31 => ⟨S4x2048x16, .i32⟩
  | 32 => ⟨S4x2048x16, .i1⟩
  | 33 => ⟨S4x2048x16, .f32⟩
  | 34 => ⟨S4x2048x1, .i32⟩
  | 35 => ⟨S1x1x16, .i32⟩
  | 36 => ⟨S4x2048x16, .i32⟩
  | 37 => ⟨S4x2048x16, .i32⟩
  | 38 => ⟨S4x2048x16, .i1⟩
  | 39 => ⟨S4x2048x16, .f32⟩
  | 40 => ⟨S4x2048, .f32⟩
  | 41 => ⟨S_, .f32⟩
  | 42 => ⟨S4x2048, .f32⟩
  | 43 => ⟨S4x2048, .f32⟩
  | 44 => ⟨S4x2048, .f32⟩
  | 45 => ⟨S4x2048, .f32⟩
  | 46 => ⟨S_, .f32⟩
  | 47 => ⟨S4x16, .f32⟩
  | 48 => ⟨S_, .f32⟩
  | 49 => ⟨S4x16, .f32⟩
  | 50 => ⟨S4x16, .f32⟩
  | 51 => ⟨S_, .f32⟩
  | 52 => ⟨S4x16, .f32⟩
  | 53 => ⟨S_, .f32⟩
  | 54 => ⟨S4x16, .f32⟩
  | 55 => ⟨S4x16, .f32⟩
  | 56 => ⟨S4x16, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S4x2048, .f32⟩
  | 65 => ⟨S4x2048, .f32⟩
  | 66 => ⟨S4x2048, .i1⟩
  | 67 => ⟨S4x2048, .f32⟩
  | 68 => ⟨S4x2048x1, .f32⟩
  | 69 => ⟨S4x2048x16, .f32⟩
  | 70 => ⟨S4x2048x16, .f32⟩
  | 71 => ⟨S_, .i32⟩
  | 72 => ⟨S_, .f32⟩
  | 73 => ⟨S4x2049x16, .f32⟩
  | 74 => ⟨S4x2048x16, .f32⟩
  | 75 => ⟨S_, .f32⟩
  | 76 => ⟨S_, .f32⟩
  | 77 => ⟨S4x2048x16, .f32⟩
  | 78 => ⟨S4x2048x16, .f32⟩
  | 79 => ⟨S_, .f32⟩
  | 80 => ⟨S4x2048x16, .f32⟩
  | 81 => ⟨S4x2048x16, .i1⟩
  | 82 => ⟨S4x2048x16, .f32⟩
  | 83 => ⟨S4x2048x16, .f32⟩
  | 84 => ⟨S_, .f32⟩
  | 85 => ⟨S4x16, .f32⟩
  | 86 => ⟨S4x1x16, .f32⟩
  | 87 => ⟨S_, .f32⟩
  | 88 => ⟨S4x1x16, .f32⟩
  | 89 => ⟨S4x1x16, .f32⟩
  | 90 => ⟨S_, .f32⟩
  | 91 => ⟨S4x2048, .f32⟩
  | 92 => ⟨S_, .f32⟩
  | 93 => ⟨S4x2048, .f32⟩
  | 94 => ⟨S4x2048, .f32⟩
  | 95 => ⟨S_, .i32⟩
  | 96 => ⟨S_, .f32⟩
  | 97 => ⟨S4x2049x16, .f32⟩
  | 98 => ⟨S4x2048x16, .f32⟩
  | 99 => ⟨S_, .f32⟩
  | 100 => ⟨S_, .f32⟩
  | 101 => ⟨S4x2048x16, .f32⟩
  | 102 => ⟨S4x2048x16, .f32⟩
  | 103 => ⟨S4x2048x16, .f32⟩
  | 104 => ⟨S4x2048x16, .f32⟩
  | 105 => ⟨S_, .f32⟩
  | 106 => ⟨S4x2048x16, .f32⟩
  | 107 => ⟨S4x2048x16, .i1⟩
  | 108 => ⟨S4x2048x16, .f32⟩
  | 109 => ⟨S4x2048x16, .f32⟩
  | 110 => ⟨S_, .f32⟩
  | 111 => ⟨S4x2048, .f32⟩
  | 112 => ⟨S_, .f32⟩
  | 113 => ⟨S4x2048, .f32⟩
  | 114 => ⟨S4x2048, .f32⟩
  | 115 => ⟨S4x2048, .i32⟩
  | 116 => ⟨S4x2048x1, .i32⟩
  | 117 => ⟨S1x1x160, .i32⟩
  | 118 => ⟨S4x2048x160, .i32⟩
  | 119 => ⟨S4x2048x160, .i32⟩
  | 120 => ⟨S4x2048x160, .i1⟩
  | 121 => ⟨S4x2048x160, .f32⟩
  | 122 => ⟨S4x2048, .i32⟩
  | 123 => ⟨S4x2048x1, .i32⟩
  | 124 => ⟨S1x1x160, .i32⟩
  | 125 => ⟨S4x2048x160, .i32⟩
  | 126 => ⟨S4x2048x160, .i32⟩
  | 127 => ⟨S4x2048x160, .i1⟩
  | _ => ⟨S4x2048x4096, .f32⟩

abbrev hbmTy0_1 (i : Nat) : BufTy := match i % 128 with
  | 0 => ⟨S4x2048x160, .f32⟩
  | 1 => ⟨S4x2048x1, .i32⟩
  | 2 => ⟨S1x1x16, .i32⟩
  | 3 => ⟨S4x2048x16, .i32⟩
  | 4 => ⟨S4x2048x16, .i32⟩
  | 5 => ⟨S4x2048x16, .i1⟩
  | 6 => ⟨S4x2048x16, .f32⟩
  | 7 => ⟨S4x2048x1, .i32⟩
  | 8 => ⟨S1x1x16, .i32⟩
  | 9 => ⟨S4x2048x16, .i32⟩
  | 10 => ⟨S4x2048x16, .i32⟩
  | 11 => ⟨S4x2048x16, .i1⟩
  | 12 => ⟨S4x2048x16, .f32⟩
  | 13 => ⟨S4x2048x1x1, .f32⟩
  | 14 => ⟨S4x2048x1x1, .f32⟩
  | 15 => ⟨S4x2048x1x1, .f32⟩
  | 16 => ⟨S4x2048x16x1, .f32⟩
  | 17 => ⟨S4x2048x16x1, .f32⟩
  | 18 => ⟨S4x2048x16x1, .f32⟩
  | 19 => ⟨S4x2048x1x160, .f32⟩
  | 20 => ⟨S4x2048x16x160, .f32⟩
  | 21 => ⟨S4x2048x16x160, .f32⟩
  | 22 => ⟨S4x2048x16x160, .f32⟩
  | 23 => ⟨S4x2048x1x1, .f32⟩
  | 24 => ⟨S4x2048x1x1, .f32⟩
  | 25 => ⟨S4x2048x1x1, .f32⟩
  | 26 => ⟨S4x2048x16x1, .f32⟩
  | 27 => ⟨S4x2048x16x1, .f32⟩
  | 28 => ⟨S4x2048x16x1, .f32⟩
  | 29 => ⟨S4x2048x1x160, .f32⟩
  | 30 => ⟨S4x2048x16x160, .f32⟩
  | 31 => ⟨S4x2048x16x160, .f32⟩
  | 32 => ⟨S4x2048x16x160, .f32⟩
  | 33 => ⟨S4x2048x16x160, .f32⟩
  | 34 => ⟨S_, .f32⟩
  | 35 => ⟨S4x2048x16x160, .f32⟩
  | 36 => ⟨S4x2048x16x160, .i1⟩
  | 37 => ⟨S4x2048x16x160, .f32⟩
  | 38 => ⟨S_, .f32⟩
  | 39 => ⟨S4x2048, .f32⟩
  | 40 => ⟨S4x2048x1, .f32⟩
  | 41 => ⟨S4x2048x16, .f32⟩
  | 42 => ⟨S4x2048x16, .f32⟩
  | 43 => ⟨S4x2048x16, .f32⟩
  | 44 => ⟨S_, .f32⟩
  | 45 => ⟨S4x2048, .f32⟩
  | 46 => ⟨S4x2048, .f32⟩
  | 47 => ⟨S4x2048, .f32⟩
  | 48 => ⟨S4x2048, .f32⟩
  | 49 => ⟨S4x2048, .f32⟩
  | 50 => ⟨S_, .f32⟩
  | 51 => ⟨S_, .f32⟩
  | 52 => ⟨S_, .f32⟩
  | 53 => ⟨S_, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_values : Ref sig .tc := ⟨.hbm, 18, rfl⟩
abbrev main_indices : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v20 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_cst_9 : Ref sig .tc := ⟨.hbm, 61, rfl⟩
abbrev main_v36 : Ref sig .tc := ⟨.hbm, 62, rfl⟩
abbrev main_cst_10 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c : Ref sig .tc := ⟨.hbm, 71, rfl⟩
abbrev main_call2_v0 : Ref sig .tc := ⟨.hbm, 72, rfl⟩
abbrev main_v44 : Ref sig .tc := ⟨.hbm, 73, rfl⟩
abbrev main_v45 : Ref sig .tc := ⟨.hbm, 74, rfl⟩
abbrev main_call3_call0_cst : Ref sig .tc := ⟨.hbm, 75, rfl⟩
abbrev main_call3_call0_v0 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_cst_13 : Ref sig .tc := ⟨.hbm, 87, rfl⟩
abbrev main_v54 : Ref sig .tc := ⟨.hbm, 88, rfl⟩
abbrev main_v55 : Ref sig .tc := ⟨.hbm, 89, rfl⟩
abbrev main_cst_14 : Ref sig .tc := ⟨.hbm, 90, rfl⟩
abbrev main_v56 : Ref sig .tc := ⟨.hbm, 91, rfl⟩
abbrev main_cst_15 : Ref sig .tc := ⟨.hbm, 92, rfl⟩
abbrev main_v57 : Ref sig .tc := ⟨.hbm, 93, rfl⟩
abbrev main_v58 : Ref sig .tc := ⟨.hbm, 94, rfl⟩
abbrev main_c_16 : Ref sig .tc := ⟨.hbm, 95, rfl⟩
abbrev main_call4_v0 : Ref sig .tc := ⟨.hbm, 96, rfl⟩
abbrev main_v59 : Ref sig .tc := ⟨.hbm, 97, rfl⟩
abbrev main_v60 : Ref sig .tc := ⟨.hbm, 98, rfl⟩
abbrev main_call5_call0_cst : Ref sig .tc := ⟨.hbm, 99, rfl⟩
abbrev main_call5_call0_v0 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_17 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_18 : Ref sig .tc := ⟨.hbm, 110, rfl⟩
abbrev main_v69 : Ref sig .tc := ⟨.hbm, 111, rfl⟩
abbrev main_cst_19 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_call6_v0 : Ref sig .tc := ⟨.hbm, 116, rfl⟩
abbrev main_call6_v1 : Ref sig .tc := ⟨.hbm, 117, rfl⟩
abbrev main_call6_v2 : Ref sig .tc := ⟨.hbm, 118, rfl⟩
abbrev main_call6_v3 : Ref sig .tc := ⟨.hbm, 119, rfl⟩
abbrev main_call6_v4 : Ref sig .tc := ⟨.hbm, 120, rfl⟩
abbrev main_v73 : Ref sig .tc := ⟨.hbm, 121, rfl⟩
abbrev main_v74 : Ref sig .tc := ⟨.hbm, 122, rfl⟩
abbrev main_call7_v0 : Ref sig .tc := ⟨.hbm, 123, rfl⟩
abbrev main_call7_v1 : Ref sig .tc := ⟨.hbm, 124, rfl⟩
abbrev main_call7_v2 : Ref sig .tc := ⟨.hbm, 125, rfl⟩
abbrev main_call7_v3 : Ref sig .tc := ⟨.hbm, 126, rfl⟩
abbrev main_call7_v4 : Ref sig .tc := ⟨.hbm, 127, rfl⟩
abbrev main_v75 : Ref sig .tc := ⟨.hbm, 128, rfl⟩
abbrev main_call8_v0 : Ref sig .tc := ⟨.hbm, 129, rfl⟩
abbrev main_call8_v1 : Ref sig .tc := ⟨.hbm, 130, rfl⟩
abbrev main_call8_v2 : Ref sig .tc := ⟨.hbm, 131, rfl⟩
abbrev main_call8_v3 : Ref sig .tc := ⟨.hbm, 132, rfl⟩
abbrev main_call8_v4 : Ref sig .tc := ⟨.hbm, 133, rfl⟩
abbrev main_v76 : Ref sig .tc := ⟨.hbm, 134, rfl⟩
abbrev main_call9_v0 : Ref sig .tc := ⟨.hbm, 135, rfl⟩
abbrev main_call9_v1 : Ref sig .tc := ⟨.hbm, 136, rfl⟩
abbrev main_call9_v2 : Ref sig .tc := ⟨.hbm, 137, rfl⟩
abbrev main_call9_v3 : Ref sig .tc := ⟨.hbm, 138, rfl⟩
abbrev main_call9_v4 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_cst_20 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_cst_21 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_cst_22 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_23 : Ref sig .tc := ⟨.hbm, 178, rfl⟩
abbrev main_v112 : Ref sig .tc := ⟨.hbm, 179, rfl⟩
abbrev main_cst_24 : Ref sig .tc := ⟨.hbm, 180, rfl⟩
abbrev main_v113 : Ref sig .tc := ⟨.hbm, 181, rfl⟩

abbrev nD : Nat := 1
abbrev τ : Topo := Topo.v7x

variable {F : FTy → Type} [FloatOps F]
-- ==== Proof.Rows.lean ====
/- The gating of one token, as mathematics on extended reals: a row of sixteen logits, its softmax, the best and the
   second-best expert, the two normalized gates; and the slots of a sequence of tokens, which are running counts. -/
module

public import Idealize.ShloMosaic.Lib.Pointwise
public import Idealize.ShloMosaic.Lib.IdealHost

@[expose] public section

noncomputable section

open Idealize.ShloMosaic

namespace Gating

/-- A value for each of the sixteen experts. -/
abbrev Row := Fin 16 → EReal

/-! ## The two leading experts -/

/-- Expert `i` has the greatest value, and is the first that has it. -/
def IsBest (g : Row) (i : Fin 16) : Prop := (∀ j, g j ≤ g i) ∧ ∀ j, j < i → g j < g i

/-- Every row has a best entry. -/
theorem exists_isBest (g : Row) : ∃ i, IsBest g i := by
  classical
  obtain ⟨k, -, hk⟩ := Finset.exists_max_image (Finset.univ : Finset (Fin 16)) g ⟨0, Finset.mem_univ _⟩
  let s := (Finset.univ : Finset (Fin 16)).filter fun i => ∀ j, g j ≤ g i
  have hs : s.Nonempty := ⟨k, by simpa [s] using hk⟩
  have hm : s.min' hs ∈ s := s.min'_mem hs
  have hm' : ∀ j, g j ≤ g (s.min' hs) := by simpa [s] using hm
  refine ⟨s.min' hs, hm', fun j hj => lt_of_le_of_ne (hm' j) fun e => ?_⟩
  have : j ∈ s := by simpa [s] using fun i => (hm' i).trans e.ge
  exact absurd (s.min'_le j this) (not_le.2 hj)

/-- A row has one best entry. -/
theorem IsBest.unique {g : Row} {i j : Fin 16} (hi : IsBest g i) (hj : IsBest g j) : i = j := by
  rcases lt_trichotomy i j with h | h | h
  · exact absurd (hj.2 i h) (not_lt.2 (hi.1 j))
  · exact h
  · exact absurd (hi.2 j h) (not_lt.2 (hj.1 i))

/-- The first expert of greatest value. -/
def best (g : Row) : Fin 16 := (exists_isBest g).choose

/-- The best entry is the first of the greatest. -/
theorem best_spec (g : Row) : IsBest g (best g) := (exists_isBest g).choose_spec

/-- The first of the greatest entries is the best one. -/
theorem eq_best {g : Row} {i : Fin 16} (h : IsBest g i) : i = best g := h.unique (best_spec g)

/-- The row with the best expert's value replaced by −1. -/
def rest (g : Row) : Row := fun x => if x = best g then Ideal.ofBits .f32 3212836864#32 else g x

/-- The first expert of greatest value once the best one is set aside. -/
def second (g : Row) : Fin 16 := best (rest g)

/-- The mask's word is -1. -/
theorem negOne : Ideal.ofBits .f32 3212836864#32 = ((-1 : ℝ) : EReal) := by
  simp [Ideal.ofBits, Ideal.ieee, -EReal.coe_mul]; norm_num

/-- The word 0xFF800000 is minus infinity. -/
theorem negInf : Ideal.ofBits .f32 4286578688#32 = ⊥ := by simp [Ideal.ofBits, Ideal.ieee]

/-- The greatest value of a row, as a fold from −∞. -/
theorem fold_max (g : Row) : Finset.univ.fold max (Ideal.ofBits .f32 4286578688#32) g = g (best g) := by
  rw [negInf]
  refine le_antisymm ?_ ?_
  · rw [Finset.fold_max_le]; exact ⟨bot_le, fun j _ => (best_spec g).1 j⟩
  · rw [Finset.le_fold_max]; exact .inr ⟨_, Finset.mem_univ _, le_rfl⟩

/-- The least signed word of a family whose every word is at least the word at `i`. -/
theorem fold_minsi (f : Fin 16 → BitVec 32) (b : BitVec 32) (i : Fin 16) (hb : (f i).toInt ≤ b.toInt)
    (h : ∀ j, (f i).toInt ≤ (f j).toInt) : Finset.univ.fold IntOp.minsi b f = f i := by
  have hm : ∀ x y : BitVec 32, (IntOp.minsi x y).toInt = min x.toInt y.toInt := by
    intro x y
    unfold IntOp.minsi
    split <;> rename_i h <;> simp only [BitVec.slt_iff_toInt_lt, not_lt] at h <;> omega
  apply BitVec.eq_of_toInt_eq
  rw [← Finset.fold_hom (op' := min) (m := BitVec.toInt) hm]
  refine le_antisymm ?_ ?_
  · rw [Finset.fold_min_le]; exact .inr ⟨i, Finset.mem_univ _, le_rfl⟩
  · rw [Finset.le_fold_min]; exact ⟨hb, fun j _ => h j⟩

/-- The least index at which the row takes its greatest value, as the word computed by a masked minimum. -/
theorem fold_first (g : Row) (m : EReal) (hm : m = g (best g)) :
    Finset.univ.fold IntOp.minsi 2147483647#32 (fun x : Fin 16 => if g x = m then BitVec.ofNat 32 (x : ℕ) else 16#32)
      = BitVec.ofNat 32 (best g : ℕ) := by
  have ht : ∀ x : Fin 16, (BitVec.ofNat 32 (x : ℕ)).toInt = (x : ℕ) := by decide
  have key := fold_minsi (fun x : Fin 16 => if g x = m then BitVec.ofNat 32 (x : ℕ) else 16#32) 2147483647#32 (best g)
  simp only [hm, if_true] at key ⊢
  refine key ?_ fun j => ?_
  · rw [ht]
    have := (best g).isLt
    have h2 : (2147483647#32).toInt = 2147483647 := by decide
    omega
  · rw [ht]
    split
    · rename_i h
      rw [ht]
      by_contra hlt
      have : j < best g := by rw [Fin.lt_def]; omega
      exact absurd h ((best_spec g).2 j this).ne
    · have := (best g).isLt
      have h2 : (16#32).toInt = 16 := by decide
      omega

/-! ## Softmax and the normalized gates -/

/-- A row's greatest entry, as a fold from −∞. -/
def rowMax (L : Row) : EReal := Finset.univ.fold max (Ideal.ofBits .f32 4286578688#32) L

/-- The exponential of an entry less the greatest. -/
def rowExp (L : Row) : Row := fun e => Ideal.exp (L e - rowMax L)

/-- The sum of the exponentials. -/
def rowSum (L : Row) : EReal := ∑ e, rowExp L e

/-- The softmax of a row of logits. -/
def gate (L : Row) : Row := fun e => Ideal.div (rowExp L e) (rowSum L)

/-- The log of the sum of exponentials of a row of logits. -/
def lse (L : Row) : EReal := rowMax L + Ideal.log (rowSum L)

/-- The two leading values' sum, kept away from zero. -/
def denom (g : Row) : EReal := g (best g) + rest g (second g) + Ideal.ofBits .f32 814313567#32

/-- The best expert's share of the two leading values. -/
def first1 (g : Row) : EReal := Ideal.div (g (best g)) (denom g)

/-- The second expert's share of the two leading values. -/
def first2 (g : Row) : EReal := Ideal.div (rest g (second g)) (denom g)

/-- The token's draw sends it to its second expert as well. -/
def Routed (p : EReal) (g : Row) : Prop := p < Ideal.div (first2 g) (Ideal.ofBits .f32 1045220557#32)

/-- Every entry is a positive real number. -/
def Pos (g : Row) : Prop := ∀ e, ∃ r : ℝ, 0 < r ∧ g e = (r : EReal)

/-- Every entry is a real number. -/
def Real' (L : Row) : Prop := ∀ e, ∃ r : ℝ, L e = (r : EReal)

/-- The greatest of a row of reals is a real. -/
theorem rowMax_real {L : Row} (h : Real' L) : ∃ r : ℝ, rowMax L = (r : EReal) := by
  unfold rowMax; rw [fold_max]; exact h _

/-- The shifted exponentials of real logits are positive reals. -/
theorem rowExp_pos {L : Row} (h : Real' L) : Pos (rowExp L) := by
  intro e
  obtain ⟨m, hm⟩ := rowMax_real h
  obtain ⟨l, hl⟩ := h e
  refine ⟨Real.exp (l - m), Real.exp_pos _, ?_⟩
  unfold rowExp
  rw [hm, hl, ← EReal.coe_sub]
  rfl

/-- A sum of reals is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The sum of the shifted exponentials of real logits is a positive real. -/
theorem rowSum_pos {L : Row} (h : Real' L) : ∃ r : ℝ, 0 < r ∧ rowSum L = (r : EReal) := by
  choose f hf hfe using rowExp_pos h
  refine ⟨∑ e, f e, Finset.sum_pos (fun e _ => hf e) ⟨0, Finset.mem_univ _⟩, ?_⟩
  unfold rowSum
  rw [← sum_coe]
  exact Finset.sum_congr rfl fun e _ => hfe e

/-- A quotient of positive reals is a positive real. -/
theorem div_pos' {a b : EReal} (ha : ∃ r : ℝ, 0 < r ∧ a = (r : EReal)) (hb : ∃ r : ℝ, 0 < r ∧ b = (r : EReal)) :
    ∃ r : ℝ, 0 < r ∧ Ideal.div a b = (r : EReal) := by
  obtain ⟨r, hr, rfl⟩ := ha
  obtain ⟨q, hq, rfl⟩ := hb
  refine ⟨r / q, div_pos hr hq, ?_⟩
  rw [Ideal.div, if_neg (by simpa using hq.ne'), ← EReal.coe_inv, ← EReal.coe_mul, div_eq_mul_inv]

/-- The softmax of a row of reals is a row of positive reals. -/
theorem gate_pos {L : Row} (h : Real' L) : Pos (gate L) := fun e => div_pos' (rowExp_pos h e) (rowSum_pos h)

/-- With positive entries the second expert is another than the best one. -/
theorem second_ne {g : Row} (h : Pos g) : second g ≠ best g := by
  intro e
  have hs := best_spec (rest g)
  obtain ⟨k, hk⟩ : ∃ k : Fin 16, k ≠ best g := exists_ne _
  have h1 := hs.1 k
  have h2 : best (rest g) = best g := e
  obtain ⟨r, hr, hre⟩ := h k
  rw [h2] at h1
  unfold rest at h1
  rw [if_neg hk, if_pos rfl, hre, negOne, EReal.coe_le_coe_iff] at h1
  linarith

/-- On positive gates the second gate is the second expert's own. -/
theorem rest_second {g : Row} (h : Pos g) : rest g (second g) = g (second g) := if_neg (second_ne h)

/-- The small constant in the normalization is positive. -/
theorem eps_pos : ∃ r : ℝ, 0 < r ∧ Ideal.ofBits .f32 814313567#32 = (r : EReal) := by
  refine ⟨_, ?_, by simp [Ideal.ofBits, Ideal.ieee, -EReal.coe_mul]; rfl⟩
  norm_num

/-- A sum of positive reals is a positive real. -/
theorem add_pos' {a b : EReal} (ha : ∃ r : ℝ, 0 < r ∧ a = (r : EReal)) (hb : ∃ r : ℝ, 0 < r ∧ b = (r : EReal)) :
    ∃ r : ℝ, 0 < r ∧ a + b = (r : EReal) := by
  obtain ⟨r, hr, rfl⟩ := ha
  obtain ⟨q, hq, rfl⟩ := hb
  exact ⟨r + q, add_pos hr hq, (EReal.coe_add _ _).symm⟩

/-- On positive gates the normalizing sum is a positive real. -/
theorem denom_pos {g : Row} (h : Pos g) : ∃ r : ℝ, 0 < r ∧ denom g = (r : EReal) := by
  unfold denom; rw [rest_second h]; exact add_pos' (add_pos' (h _) (h _)) eps_pos

/-- On positive gates the first normalized gate is not 0. -/
theorem first1_ne {g : Row} (h : Pos g) : first1 g ≠ 0 := by
  obtain ⟨r, hr, e⟩ := div_pos' (h (best g)) (denom_pos h)
  unfold first1; rw [e]; exact_mod_cast hr.ne'

/-- On positive gates the second normalized gate is not 0. -/
theorem first2_ne {g : Row} (h : Pos g) : first2 g ≠ 0 := by
  obtain ⟨r, hr, e⟩ := div_pos' (h (second g)) (denom_pos h)
  unfold first2; rw [rest_second h, e]; exact_mod_cast hr.ne'

end Gating

end
-- ==== Proof.Slots.lean ====
/- Running sums over a sequence of 2048 tokens, cut into blocks of 512; the slots of the tokens; and the values the
   four results take. -/
module

public import proofs.«01_k».proof.Proof.Rows

@[expose] public section

noncomputable section

open Idealize.ShloMosaic

namespace Gating

/-- The sum of `h` over the tokens before position `n`. -/
def before {M : Type} [AddCommMonoid M] (h : Fin 2048 → M) (n : ℕ) : M := ∑ i : Fin 2048, if (i : ℕ) < n then h i else 0

/-- Token `r` of block `q`. -/
def tok (q : Fin 4) (r : Fin 512) : Fin 2048 := ⟨512 * (q : ℕ) + (r : ℕ), by omega⟩

/-- No token lies before position 0. -/
theorem before_zero {M : Type} [AddCommMonoid M] (h : Fin 2048 → M) : before h 0 = 0 := by simp [before]

/-- All tokens lie before position 2048. -/
theorem before_all {M : Type} [AddCommMonoid M] (h : Fin 2048 → M) : before h 2048 = ∑ i, h i := by
  unfold before; exact Finset.sum_congr rfl fun i _ => if_pos i.isLt

/-- A sum over all tokens, block by block. -/
theorem sum_blocks {M : Type} [AddCommMonoid M] (h : Fin 2048 → M) : ∑ i, h i = ∑ q : Fin 4, ∑ r : Fin 512, h (tok q r) := by
  rw [← Fintype.sum_prod_type' (fun q r => h (tok q r))]
  refine (Fintype.sum_equiv ⟨fun a : Fin 4 × Fin 512 => tok a.1 a.2,
    fun i : Fin 2048 => (⟨(i : ℕ) / 512, by omega⟩, ⟨(i : ℕ) % 512, by omega⟩), ?_, ?_⟩ _ _ ?_).symm
  · rintro ⟨q, r⟩; unfold tok; ext <;> simp <;> omega
  · intro i; unfold tok; ext; simp; omega
  · intro a; rfl

/-- Inside a block: the tokens before the block, and the earlier ones of the block. -/
theorem before_tok {M : Type} [AddCommMonoid M] (h : Fin 2048 → M) (q : Fin 4) (n : ℕ) (hn : n ≤ 512) :
    before h (512 * (q : ℕ) + n) = before h (512 * (q : ℕ)) + ∑ r : Fin 512, if (r : ℕ) < n then h (tok q r) else 0 := by
  unfold before
  rw [sum_blocks, sum_blocks]
  have key : ∀ (k : Fin 4), (∑ r : Fin 512, if ((tok k r : Fin 2048) : ℕ) < 512 * (q : ℕ) + n then h (tok k r) else 0)
      = (∑ r : Fin 512, if ((tok k r : Fin 2048) : ℕ) < 512 * (q : ℕ) then h (tok k r) else 0)
        + if k = q then (∑ r : Fin 512, if (r : ℕ) < n then h (tok q r) else 0) else 0 := by
    intro k
    by_cases hk : k = q
    · subst hk
      rw [if_pos rfl, Finset.sum_eq_zero (s := Finset.univ) (f := fun r : Fin 512 => if ((tok k r : Fin 2048) : ℕ) < 512 * (k : ℕ) then h (tok k r) else 0), zero_add]
      · refine Finset.sum_congr rfl fun r _ => ?_
        simp only [tok, Nat.add_lt_add_iff_left]
      · intro r _; rw [if_neg]; simp only [tok]; omega
    · rw [if_neg hk, add_zero]
      refine Finset.sum_congr rfl fun r _ => ?_
      have hk' : (k : ℕ) ≠ (q : ℕ) := fun e => hk (Fin.ext e)
      have : (((tok k r : Fin 2048) : ℕ) < 512 * (q : ℕ) + n) ↔ (((tok k r : Fin 2048) : ℕ) < 512 * (q : ℕ)) := by
        simp only [tok]; have := r.isLt; omega
      simp only [this]
  rw [Finset.sum_congr rfl fun k _ => key k, Finset.sum_add_distrib]
  congr 1
  rw [Finset.sum_ite_eq' Finset.univ q]
  exact if_pos (Finset.mem_univ _)

/-- Past a block: the tokens before it, and the block's. -/
theorem before_block {M : Type} [AddCommMonoid M] (h : Fin 2048 → M) (q : Fin 4) :
    before h (512 * ((q : ℕ) + 1)) = before h (512 * (q : ℕ)) + ∑ r : Fin 512, h (tok q r) := by
  rw [Nat.mul_add, Nat.mul_one, before_tok h q 512 le_rfl]
  congr 1

/-- A running count, read as an extended real, is the running count of ones. -/
theorem before_cast (h : Fin 2048 → ℕ) (n : ℕ) : before (fun i => ((h i : ℕ) : EReal)) n = ((before h n : ℕ) : EReal) := by
  unfold before
  rw [Nat.cast_sum]
  refine Finset.sum_congr rfl fun i _ => ?_
  split <;> simp

open Classical in
/-- 1 when the statement holds, else 0. -/
def ind (P : Prop) : ℕ := if P then 1 else 0

/-- A true statement counts 1. -/
theorem ind_true {P : Prop} (h : P) : ind P = 1 := if_pos h
/-- A false statement counts 0. -/
theorem ind_false {P : Prop} (h : ¬P) : ind P = 0 := if_neg h
/-- A statement counts at most 1. -/
theorem ind_le (P : Prop) : ind P ≤ 1 := by unfold ind; split <;> omega

/-- At most 2048 tokens are counted. -/
theorem before_ind_le (P : Fin 2048 → Prop) (n : ℕ) : before (fun i => ind (P i)) n ≤ 2048 := by
  unfold before
  refine (Finset.sum_le_card_nsmul _ _ 1 fun i _ => ?_).trans (by simp)
  split
  · exact ind_le _
  · omega

/-- How many earlier tokens have the same best expert. -/
def slot1 (G : Fin 2048 → Row) (n : Fin 2048) : ℕ := before (fun i => ind (best (G i) = best (G n))) n

/-- How many earlier tokens went to their second expert and have the same one. -/
def slot2 (G : Fin 2048 → Row) (p : Fin 2048 → EReal) (n : Fin 2048) : ℕ :=
  before (fun i => ind (second (G i) = second (G n) ∧ Routed (p i) (G i))) n

/-- The token fills slot `c` of its best expert `e`. -/
def Fills1 (G : Fin 2048 → Row) (n : Fin 2048) (e : Fin 16) (c : ℕ) : Prop := best (G n) = e ∧ slot1 G n = c

/-- The token fills slot `c` of its second expert `e`. -/
def Fills2 (G : Fin 2048 → Row) (p : Fin 2048 → EReal) (n : Fin 2048) (e : Fin 16) (c : ℕ) : Prop :=
  second (G n) = e ∧ Routed (p n) (G n) ∧ slot2 G p n = c

open Classical in
/-- The weight with which token `n` is read back from slot `c` of expert `e`. -/
def combine (G : Fin 2048 → Row) (p : Fin 2048 → EReal) (n : Fin 2048) (e : Fin 16) (c : ℕ) : EReal :=
  if Fills2 G p n e c then first2 (G n) else if Fills1 G n e c then first1 (G n) else 0

open Classical in
/-- 1 where token `n` is put into slot `c` of expert `e`. -/
def dispatch (G : Fin 2048 → Row) (p : Fin 2048 → EReal) (n : Fin 2048) (e : Fin 16) (c : ℕ) : EReal :=
  if Fills2 G p n e c then 1 else if Fills1 G n e c then 1 else 0

/-- A slot is marked exactly where its weight is not zero. -/
theorem dispatch_eq (G : Fin 2048 → Row) (p : Fin 2048 → EReal) (n : Fin 2048) (e : Fin 16) (c : ℕ) (h : Pos (G n)) :
    dispatch G p n e c = if combine G p n e c ≠ 0 then 1 else 0 := by
  unfold dispatch combine
  split
  · rw [if_pos (first2_ne h)]
  · split
    · rw [if_pos (first1_ne h)]
    · simp

/-- The gates of an expert, summed over the tokens. -/
def gateSum (G : Fin 2048 → Row) (e : Fin 16) : EReal := ∑ n, G n e

/-- How many tokens have expert `e` as their best. -/
def bestCount (G : Fin 2048 → Row) (e : Fin 16) : EReal := ∑ n, ((ind (best (G n) = e) : ℕ) : EReal)

end Gating

end
-- ==== Proof.KRow.lean ====
/- What one block of 512 tokens computes, read at an expert and a token: the kernel's payloads as the gating of the
   block's rows. -/
module

public import proofs.«01_k».proof.Proof.Gen.KernelIdeal.Skeleton
public import proofs.«01_k».proof.Proof.Slots
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.KernelIdeal.Block

open Cert.KernelIdeal Cert.KernelIdeal.Gen Gating

/-! ## Truth values and words -/

/-- A truth value widened and converted to a float is 1 or 0. -/
theorem flag (b : BitVec 1) (P : Prop) (h : b = 1#1 ↔ P) :
    (FloatOps.sitofp (F := Ideal) .f32 (BitVec.setWidth 32 b) : EReal) = ((ind P : ℕ) : EReal) := by
  have hb : b = 0#1 ∨ b = 1#1 := by clear h; revert b; decide
  rcases hb with rfl | rfl
  · rw [ind_false (fun hp => absurd (h.2 hp) (by decide))]
    show (((0#32 : BitVec 32).toInt : ℝ) : EReal) = _
    simp
  · rw [ind_true (h.1 rfl)]
    show (((1#32 : BitVec 32).toInt : ℝ) : EReal) = _
    simp

/-- Words of small numbers are equal exactly when the numbers are. -/
theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · exact congrArg _

/-- The words of two small numbers compare equal exactly when the numbers are equal. -/
theorem cmpi_eq_ofNat {a b : ℕ} (ha : a < 2 ^ 32) (hb : b < 2 ^ 32) :
    IntOp.cmpi .eq (BitVec.ofNat 32 a) (BitVec.ofNat 32 b) = 1#1 ↔ a = b := by
  rw [IntOp.cmpi_eq, ofNat_inj ha hb]

/-- The words of two small numbers compare as the numbers do. -/
theorem cmpi_slt_ofNat {a b : ℕ} (ha : a < 2 ^ 31) (hb : b < 2 ^ 31) :
    IntOp.cmpi .slt (BitVec.ofNat 32 a) (BitVec.ofNat 32 b) = 1#1 ↔ a < b := by
  have key : ∀ n : ℕ, n < 2 ^ 31 → (BitVec.ofNat 32 n).toInt = n := by
    intro n hn
    rw [BitVec.toInt_eq_toNat_of_lt] <;> rw [BitVec.toNat_ofNat, Nat.mod_eq_of_lt (by omega)]
    omega
  rw [IntOp.cmpi_slt, key a ha, key b hb]
  omega

/-- A statement's truth value is 1 exactly when it holds. -/
theorem ofBool_iff (P : Prop) [Decidable P] : BitVec.ofBool (decide P) = 1#1 ↔ P := by
  by_cases h : P <;> simp [h]

/-- A select on an equality of words. -/
theorem select_iff {α : Type} (b : BitVec 1) (P : Prop) [Decidable P] (h : b = 1#1 ↔ P) (x y : α) :
    Scalar.select b x y = if P then x else y := by
  unfold Scalar.select
  exact if_congr h rfl rfl

/-- A product with a truth value read as 1 or 0. -/
theorem mul_ind (a : EReal) (P : Prop) [Decidable P] : a * ((ind P : ℕ) : EReal) = if P then a else 0 := by
  by_cases h : P
  · rw [ind_true h, if_pos h]; simp
  · rw [ind_false h, if_neg h]; simp

/-- The product of two truth values is that of the conjunction. -/
theorem ind_mul_ind (P Q : Prop) : ((ind P : ℕ) : EReal) * ((ind Q : ℕ) : EReal) = ((ind (P ∧ Q) : ℕ) : EReal) := by
  by_cases h : P <;> by_cases k : Q
  · rw [ind_true h, ind_true k, ind_true ⟨h, k⟩]; simp
  · rw [ind_false k, ind_false (fun x : P ∧ Q => k x.2)]; simp
  · rw [ind_false h, ind_false (fun x : P ∧ Q => h x.1)]; simp
  · rw [ind_false h, ind_false (fun x : P ∧ Q => h x.1)]; simp

/-- The float of a count below 2³¹, converted to a word. -/
theorem fptosi_nat (n : ℕ) (h : n < 2 ^ 31) : FloatOps.fptosi (F := Ideal) (φ := .f32) 32 ((n : ℕ) : EReal) = BitVec.ofNat 32 n := by
  have hc : ((n : ℕ) : EReal) = ((n : ℝ) : EReal) := by norm_cast
  show Ideal.fptosi 32 _ = _
  rw [Ideal.fptosi, hc, Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    have h2 : ((2 ^ (32 - 1) : ℕ) : ℤ) = 2147483648 := by norm_num
    rw [h2]; omega
  rw [this, BitVec.ofInt_natCast]

/-- The word of the capacity is 160. -/
theorem c160 : Ideal.ofBits .f32 1126170624#32 = ((160 : ℕ) : EReal) := by
  have : ((160 : ℕ) : EReal) = ((160 : ℝ) : EReal) := by norm_cast
  rw [this]
  simp [Ideal.ofBits, Ideal.ieee, -EReal.coe_mul]; norm_num

/-! ## The gates -/

/-- The logits of token `r` of the block. -/
def logit (x0 : Vec Ideal S1x512x4096 .f32) (x1 : Vec Ideal S4096x16 .f32) (r : Fin 512) : Row :=
  fun e => ∑ d : Fin 4096, x1 (ix2 d e) * x0 (ix3 0 r d)

/-- The gates of token `r` of the block. -/
def gates (x0 : Vec Ideal S1x512x4096 .f32) (x1 : Vec Ideal S4096x16 .f32) (r : Fin 512) : Row := gate (logit x0 x1 r)

/-- The block's gates. -/
theorem pay15_at (x0 : Vec Ideal S1x512x4096 .f32) (x1 : Vec Ideal S4096x16 .f32) (e : Fin 16) (r : Fin 512) :
    k0_pay15 (F := Ideal) x0 x1 (ix2 e r) = gates x0 x1 r e := by
  pointwise [k0_pay15, k0_pay14, k0_pay13, k0_pay12, k0_pay11]
  rfl

/-- A token's best gate. -/
theorem pay17_at (x0 : Vec Ideal S1x512x4096 .f32) (x1 : Vec Ideal S4096x16 .f32) (r : Fin 512) :
    k0_pay17 (F := Ideal) x0 x1 (ix2 0 r) = gates x0 x1 r (best (gates x0 x1 r)) := by
  rw [← fold_max (gates x0 x1 r)]
  pointwise [k0_pay17]
  simp only [pay15_at]

/-- The z cell after the block: the block's squared log-sums added. -/
theorem pay16_at (x0 : Vec Ideal S1x512x4096 .f32) (x1 : Vec Ideal S4096x16 .f32) (z : Vec Ideal S1x1 .f32) :
    k0_pay16 (F := Ideal) x0 x1 z (ix2 0 0) = z (ix2 0 0) + ∑ r : Fin 512, lse (logit x0 x1 r) * lse (logit x0 x1 r) := by
  pointwise [k0_pay16, k0_pay14, k0_pay13, k0_pay12, k0_pay11]
  refine congrArg (z (ix2 0 0) + ·) ?_
  rw [Finset.univ_unique, Finset.sum_singleton]
  rfl

/-! ## The two leading experts of each token -/

section rows

variable {g : Fin 512 → Row} {p : Fin 512 → EReal}
  {v20 : FVec Ideal S16x512 .f32} {v33 : IVec S16x512 32} {v35 : FVec Ideal S1x512 .f32} {x2 : Vec Ideal S1x1x512 .f32}
  (hg : ∀ e r, v20 (ix2 e r) = g r e) (hi : ∀ e r, v33 (ix2 e r) = BitVec.ofNat 32 (e : ℕ))
  (ht : ∀ r, v35 (ix2 0 r) = g r (best (g r))) (hp : ∀ r, x2 (ix3 0 0 r) = p r)

include hg hi ht in
/-- A token's best expert. -/
theorem pay18_at (r : Fin 512) : k0_pay18 v20 v33 v35 (ix2 0 r) = BitVec.ofNat 32 (best (g r) : ℕ) := by
  rw [← fold_first (g r) _ rfl]
  pointwise [k0_pay18]
  simp only [hg, hi, ht]

include hg hi ht in
/-- The gates with the best one masked by -1. -/
theorem pay19_at (e : Fin 16) (r : Fin 512) : k0_pay19 v20 v33 v35 (ix2 e r) = rest (g r) e := by
  pointwise [k0_pay19]
  rw [pay18_at hg hi ht, hi, hg, select_iff _ (e = best (g r))]
  · rfl
  · rw [cmpi_eq_ofNat (by omega) (by omega), Fin.ext_iff]

include hg hi ht in
/-- A token's second gate. -/
theorem pay20_at (r : Fin 512) : k0_pay20 v20 v33 v35 (ix2 0 r) = rest (g r) (second (g r)) := by
  unfold second
  rw [← fold_max (rest (g r))]
  pointwise [k0_pay20]
  exact congrArg (fun f => Finset.fold max _ f Finset.univ) (funext fun e => pay19_at hg hi ht e r)

include hg hi ht in
/-- A token's second expert. -/
theorem pay21_at (r : Fin 512) : k0_pay21 v20 v33 v35 (ix2 0 r) = BitVec.ofNat 32 (second (g r) : ℕ) := by
  unfold second
  rw [← fold_first (rest (g r)) _ rfl]
  pointwise [k0_pay21]
  simp only [pay19_at hg hi ht, pay20_at hg hi ht, hi]
  rfl

include hg hi ht in
/-- The mark of a token's best expert. -/
theorem pay22_at (e : Fin 16) (r : Fin 512) : k0_pay22 v20 v33 v35 (ix2 e r) = ((ind (best (g r) = e) : ℕ) : EReal) := by
  pointwise [k0_pay22]
  rw [pay18_at hg hi ht, hi]
  refine flag _ _ ?_
  rw [cmpi_eq_ofNat (by omega) (by omega), Fin.ext_iff, eq_comm]

include hg hi ht in
/-- The sum that a token's two gates are normalized by. -/
theorem pay23_at (r : Fin 512) : k0_pay23 v20 v33 v35 (ix2 0 r) = denom (g r) := by
  pointwise [k0_pay23]
  rw [pay20_at hg hi ht, ht]
  rfl

include hg hi ht in
/-- The first normalized gate. -/
theorem pay24_at (r : Fin 512) : k0_pay24 v20 v33 v35 (ix2 0 r) = first1 (g r) := by
  pointwise [k0_pay24]
  rw [pay23_at hg hi ht, ht]
  rfl

include hg hi ht in
/-- The second normalized gate. -/
theorem pay25_at (r : Fin 512) : k0_pay25 v20 v33 v35 (ix2 0 r) = first2 (g r) := by
  pointwise [k0_pay25]
  rw [pay23_at hg hi ht, pay20_at hg hi ht]
  rfl

include hg hi ht hp in
/-- The mark of a routed token's second expert. -/
theorem pay26_at (e : Fin 16) (r : Fin 512) :
    k0_pay26 v20 v33 v35 x2 (ix2 e r) = ((ind (second (g r) = e ∧ Routed (p r) (g r)) : ℕ) : EReal) := by
  pointwise [k0_pay26]
  rw [pay21_at hg hi ht, pay25_at hg hi ht, hi, hp, ← ind_mul_ind]
  congr 1
  · refine flag _ _ ?_
    rw [cmpi_eq_ofNat (by omega) (by omega), Fin.ext_iff, eq_comm]
  · refine flag _ _ ?_
    rw [ofBool_iff]
    rfl

/-- How many earlier tokens of the block have expert `e` as their best. -/
def early1 (g : Fin 512 → Row) (e : Fin 16) (r : Fin 512) : ℕ :=
  ∑ s : Fin 512, if (s : ℕ) < (r : ℕ) then ind (best (g s) = e) else 0

/-- How many earlier tokens of the block go to expert `e` as their second. -/
def early2 (g : Fin 512 → Row) (p : Fin 512 → EReal) (e : Fin 16) (r : Fin 512) : ℕ :=
  ∑ s : Fin 512, if (s : ℕ) < (r : ℕ) then ind (second (g s) = e ∧ Routed (p s) (g s)) else 0

/-- The strictly triangular matrix of earlier tokens of the block. -/
theorem pay27_at (s r : Fin 512) : k0_pay27 (F := Ideal) (ix2 s r) = ((ind ((s : ℕ) < (r : ℕ)) : ℕ) : EReal) := by
  pointwise [k0_pay27]
  exact flag _ _ (cmpi_slt_ofNat (by omega) (by omega))

include hg hi ht in
/-- How many earlier tokens of the block have a given best expert. -/
theorem pay28_at (e : Fin 16) (r : Fin 512) : k0_pay28 v20 v33 v35 (ix2 e r) = ((early1 g e r : ℕ) : EReal) := by
  unfold early1
  rw [Nat.cast_sum]
  pointwise [k0_pay28]
  refine Finset.sum_congr rfl fun s _ => ?_
  rw [pay22_at hg hi ht, pay27_at, mul_ind]
  split <;> simp

include hg hi ht hp in
/-- How many earlier tokens of the block are routed to a given second expert. -/
theorem pay29_at (e : Fin 16) (r : Fin 512) : k0_pay29 v20 v33 v35 x2 (ix2 e r) = ((early2 g p e r : ℕ) : EReal) := by
  unfold early2
  rw [Nat.cast_sum]
  pointwise [k0_pay29]
  refine Finset.sum_congr rfl fun s _ => ?_
  rw [pay26_at hg hi ht hp, pay27_at, mul_ind]
  split <;> simp

end rows

/-! ## Slots, and the marks -/

section slots

variable {g : Fin 512 → Row} {p : Fin 512 → EReal} {N1 N2 : Fin 16 → ℕ}
  {oh oh2 ex1 ex2 : FVec Ideal S16x512 .f32} {c1 c2 : Vec Ideal S16x1 .f32} {ga gb : FVec Ideal S1x512 .f32}
  (hoh : ∀ e r, oh (ix2 e r) = ((ind (best (g r) = e) : ℕ) : EReal))
  (hoh2 : ∀ e r, oh2 (ix2 e r) = ((ind (second (g r) = e ∧ Routed (p r) (g r)) : ℕ) : EReal))
  (hx1 : ∀ e r, ex1 (ix2 e r) = ((early1 g e r : ℕ) : EReal))
  (hx2 : ∀ e r, ex2 (ix2 e r) = ((early2 g p e r : ℕ) : EReal))
  (hc1 : ∀ e, c1 (ix2 e 0) = ((N1 e : ℕ) : EReal)) (hc2 : ∀ e, c2 (ix2 e 0) = ((N2 e : ℕ) : EReal))
  (hga : ∀ r, ga (ix2 0 r) = first1 (g r)) (hgb : ∀ r, gb (ix2 0 r) = first2 (g r))

/-- The slot of token `r` at its best expert, of which `N1` are taken before the block. -/
def at1 (g : Fin 512 → Row) (N1 : Fin 16 → ℕ) (r : Fin 512) : ℕ := early1 g (best (g r)) r + N1 (best (g r))

/-- The slot of token `r` at its second expert, of which `N2` are taken before the block. -/
def at2 (g : Fin 512 → Row) (p : Fin 512 → EReal) (N2 : Fin 16 → ℕ) (r : Fin 512) : ℕ :=
  early2 g p (second (g r)) r + N2 (second (g r))

/-- Of a sum weighted by a mark on one expert, that expert's term stays. -/
theorem sum_mark (f : Fin 16 → EReal) (i : Fin 16) (P : Prop) [Decidable P] :
    ∑ e : Fin 16, f e * ((ind (i = e ∧ P) : ℕ) : EReal) = if P then f i else 0 := by
  by_cases h : P
  · rw [if_pos h, Finset.sum_eq_single i]
    · rw [ind_true ⟨rfl, h⟩]; simp
    · intro e _ he
      rw [ind_false (fun k : i = e ∧ P => he k.1.symm)]; simp
    · intro k; exact absurd (Finset.mem_univ _) k
  · rw [if_neg h]
    refine Finset.sum_eq_zero fun e _ => ?_
    rw [ind_false (fun k : i = e ∧ P => h k.2)]; simp

include hoh hx1 hc1 in
/-- The slot of a token's first choice. -/
theorem pay30_at (r : Fin 512) : k0_pay30 oh ex1 c1 (ix2 0 r) = ((at1 g N1 r : ℕ) : EReal) := by
  have h := sum_mark (fun e => ((early1 g e r : ℕ) : EReal) + ((N1 e : ℕ) : EReal)) (best (g r)) True
  rw [if_pos trivial] at h
  unfold at1
  rw [Nat.cast_add, ← h]
  pointwise [k0_pay30]
  refine Finset.sum_congr rfl fun e _ => ?_
  simp only [hoh, hx1, hc1, and_true]

open Classical in
include hoh2 hx2 hc2 in
/-- The slot of a routed token's second choice. -/
theorem pay31_at (r : Fin 512) :
    k0_pay31 oh2 ex2 c2 (ix2 0 r) = if Routed (p r) (g r) then ((at2 g p N2 r : ℕ) : EReal) else 0 := by
  have h := sum_mark (fun e => ((early2 g p e r : ℕ) : EReal) + ((N2 e : ℕ) : EReal)) (second (g r)) (Routed (p r) (g r))
  unfold at2
  rw [Nat.cast_add, ← h]
  pointwise [k0_pay31]
  refine Finset.sum_congr rfl fun e _ => ?_
  rw [hoh2, hx2, hc2]

/-- A count is below 160 as an extended real exactly when it is as a number. -/
theorem lt160 (n : ℕ) : (BitVec.ofBool (decide (((n : ℕ) : EReal) < Ideal.ofBits .f32 1126170624#32)) = 1#1) ↔ n < 160 := by
  rw [c160, ofBool_iff]
  exact Nat.cast_lt

include hoh hx1 hc1 hga in
/-- The first choice's weight: the normalized gate where the slot is within the capacity, else 0. -/
theorem pay32_at (r : Fin 512) :
    k0_pay32 oh ga ex1 c1 (ix2 0 r) = first1 (g r) * ((ind (at1 g N1 r < 160) : ℕ) : EReal) := by
  pointwise [k0_pay32]
  rw [pay30_at hoh hx1 hc1, hga]
  exact congrArg (first1 (g r) * ·) (flag _ _ (lt160 _))

include hoh2 in
/-- A token is routed exactly when its second mark is set. -/
theorem pay33_at (r : Fin 512) : k0_pay33 oh2 (ix2 0 r) = 1#1 ↔ Routed (p r) (g r) := by
  classical
  have h := sum_mark (fun _ => 1) (second (g r)) (Routed (p r) (g r))
  pointwise [k0_pay33]
  rw [ofBool_iff, Finset.sum_congr rfl fun e _ => hoh2 e r]
  simp only [one_mul] at h
  rw [h]
  by_cases hr : Routed (p r) (g r) <;> simp [hr]

include hoh2 hx2 hc2 hgb in
/-- A routed token's second weight: the normalized gate where the slot is within the capacity, else 0. -/
theorem pay34_at (r : Fin 512) (hr : Routed (p r) (g r)) :
    k0_pay34 gb oh2 ex2 c2 (ix2 0 r) = first2 (g r) * ((ind (at2 g p N2 r < 160) : ℕ) : EReal) := by
  have h1 : k0_pay34 gb oh2 ex2 c2 (ix2 0 r)
      = gb (ix2 0 r) * (Scalar.select (k0_pay33 oh2 (ix2 0 r)) 1 0
        * FloatOps.sitofp (F := Ideal) .f32 (BitVec.setWidth 32 (BitVec.ofBool (decide (k0_pay31 oh2 ex2 c2 (ix2 0 r) < Ideal.ofBits .f32 1126170624#32))))) := by
    pointwise [k0_pay34]
  rw [h1, select_iff _ True (by simpa [hr] using pay33_at hoh2 r), if_pos trivial, pay31_at hoh2 hx2 hc2, if_pos hr, hgb, one_mul]
  exact congrArg (first2 (g r) * ·) (flag _ _ (lt160 _))

include hoh hc1 in
/-- The carried first count after the block. -/
theorem pay35_at (e : Fin 16) :
    k0_pay35 oh c1 (ix2 e 0) = ((N1 e + ∑ r : Fin 512, ind (best (g r) = e) : ℕ) : EReal) := by
  rw [Nat.cast_add, Nat.cast_sum]
  pointwise [k0_pay35]
  rw [hc1, Finset.sum_congr rfl fun r _ => hoh e r]

include hoh2 hc2 in
/-- The carried second count after the block. -/
theorem pay37_at (e : Fin 16) :
    k0_pay37 c2 (k0_pay36 oh2) (ix2 e 0)
      = ((N2 e + ∑ r : Fin 512, ind (second (g r) = e ∧ Routed (p r) (g r)) : ℕ) : EReal) := by
  rw [Nat.cast_add, Nat.cast_sum]
  pointwise [k0_pay37, k0_pay36]
  rw [hc2, Finset.sum_congr rfl fun r _ => hoh2 e r]

/-- A row's sum over the block, added to the carried gate sum. -/
theorem pay38_at (v : FVec Ideal S16x512 .f32) (a : Vec Ideal S16x1 .f32) (e : Fin 16) :
    k0_pay38 v a (ix2 e 0) = a (ix2 e 0) + ∑ r : Fin 512, v (ix2 e r) := by
  pointwise [k0_pay38]

/-- A row's sum over the block, added to the carried count. -/
theorem pay39_at (v : FVec Ideal S16x512 .f32) (a : Vec Ideal S16x1 .f32) (e : Fin 16) :
    k0_pay39 v a (ix2 e 0) = a (ix2 e 0) + ∑ r : Fin 512, v (ix2 e r) := by
  pointwise [k0_pay39]

/-- The balance cell after a batch: the batch's balance added. -/
theorem pay40_at (z : Vec Ideal S1x1 .f32) (a b : Vec Ideal S16x1 .f32) :
    k0_pay40 z a b (ix2 0 0) = z (ix2 0 0) + ∑ e : Fin 16, a (ix2 e 0) * b (ix2 e 0) := by
  pointwise [k0_pay40]
  simp only [Finset.univ_unique, Finset.sum_singleton]

include hoh hx1 hc1 in
/-- The first slot as a word. -/
theorem pay41_at (r : Fin 512) (hN : at1 g N1 r < 2 ^ 31) :
    k0_pay41 (k0_pay30 oh ex1 c1) (ix2 0 r) = BitVec.ofNat 32 (at1 g N1 r) := by
  pointwise [k0_pay41]
  rw [pay30_at hoh hx1 hc1]
  exact fptosi_nat _ hN

include hoh2 hx2 hc2 in
/-- A routed token's second slot as a word. -/
theorem pay42_at (r : Fin 512) (hr : Routed (p r) (g r)) (hN : at2 g p N2 r < 2 ^ 31) :
    k0_pay42 (k0_pay31 oh2 ex2 c2) (ix2 0 r) = BitVec.ofNat 32 (at2 g p N2 r) := by
  classical
  pointwise [k0_pay42]
  rw [pay31_at hoh2 hx2 hc2, if_pos hr]
  exact fptosi_nat _ hN

end slots

end Cert.KernelIdeal.Block

end
-- ==== Proof.KTile.lean ====
/- What one block of 512 tokens leaves in its two tiles per expert: the weights and the marks of the 160 slots, each
   tile read at a slot and a token. -/
module

public import proofs.«01_k».proof.Proof.KRow

@[expose] public section

set_option maxRecDepth 16384

noncomputable section

open Idealize.ShloMosaic Idealize.ShloMosaic.TcCoe Idealize.SL.Sem

namespace Cert.KernelIdeal.Block

open Cert.KernelIdeal Cert.KernelIdeal.Gen Gating

/-- The words a tile is computed from, at a token: its two experts, its two slots, whether it goes to its second expert,
    and its two weights. -/
structure Words (g : Fin 512 → Row) (p : Fin 512 → EReal) (a1 a2 : Fin 512 → ℕ)
    (i1 i2 : IVec S1x512 32) (f1 : FVec Ideal S1x512 .f32) (rt : IVec S1x512 1) (f2 : FVec Ideal S1x512 .f32)
    (w1 w2 : IVec S1x512 32) : Prop where
  hi1 : ∀ r, i1 (ix2 0 r) = BitVec.ofNat 32 (best (g r) : ℕ)
  hi2 : ∀ r, i2 (ix2 0 r) = BitVec.ofNat 32 (second (g r) : ℕ)
  hrt : ∀ r, rt (ix2 0 r) = 1#1 ↔ Routed (p r) (g r)
  hw1 : ∀ r, w1 (ix2 0 r) = BitVec.ofNat 32 (a1 r)
  hw2 : ∀ r, Routed (p r) (g r) → w2 (ix2 0 r) = BitVec.ofNat 32 (a2 r)
  hf1 : ∀ r, f1 (ix2 0 r) = first1 (g r) * ((ind (a1 r < 160) : ℕ) : EReal)
  hf2 : ∀ r, Routed (p r) (g r) → f2 (ix2 0 r) = first2 (g r) * ((ind (a2 r < 160) : ℕ) : EReal)
  ha1 : ∀ r, a1 r < 2 ^ 31
  ha2 : ∀ r, a2 r < 2 ^ 31

open Classical in
/-- The weight of slot `c` of expert `e` for token `r`. -/
def tileW (g : Fin 512 → Row) (p : Fin 512 → EReal) (a1 a2 : Fin 512 → ℕ) (e : Fin 16) (c : ℕ) (r : Fin 512) : EReal :=
  if second (g r) = e ∧ Routed (p r) (g r) ∧ a2 r = c then first2 (g r)
  else if best (g r) = e ∧ a1 r = c then first1 (g r) else 0

open Classical in
/-- The mark of slot `c` of expert `e` for token `r`. -/
def tileM (g : Fin 512 → Row) (p : Fin 512 → EReal) (a1 a2 : Fin 512 → ℕ) (e : Fin 16) (c : ℕ) (r : Fin 512) : EReal :=
  if second (g r) = e ∧ Routed (p r) (g r) ∧ a2 r = c then 1 else if best (g r) = e ∧ a1 r = c then 1 else 0

variable {g : Fin 512 → Row} {p : Fin 512 → EReal} {a1 a2 : Fin 512 → ℕ}
  {i1 i2 : IVec S1x512 32} {f1 : FVec Ideal S1x512 .f32} {rt : IVec S1x512 1} {f2 : FVec Ideal S1x512 .f32}
  {w1 w2 : IVec S1x512 32}

/-- The best expert's mark as the kernel computes it. -/
theorem mark1 (W : Words g p a1 a2 i1 i2 f1 rt f2 w1 w2) (e : Fin 16) (c : Fin 160) (r : Fin 512) :
    IntOp.cmpi .eq (BitVec.ofNat 32 (c : ℕ))
      (Scalar.select (IntOp.cmpi .eq (i1 (ix2 0 r)) (BitVec.ofNat 32 (e : ℕ))) (w1 (ix2 0 r)) 4294967295#32) = 1#1
      ↔ best (g r) = e ∧ a1 r = c := by
  have h1 := W.ha1 r
  rw [W.hi1, W.hw1, select_iff _ (best (g r) = e)
    (by rw [cmpi_eq_ofNat (by omega) (by omega), Fin.ext_iff])]
  by_cases h : best (g r) = e
  · rw [if_pos h, cmpi_eq_ofNat (by omega) (by omega)]
    exact ⟨fun k => ⟨h, k.symm⟩, fun k => k.2.symm⟩
  · rw [if_neg h, show (4294967295#32 : BitVec 32) = BitVec.ofNat 32 4294967295 from rfl,
      cmpi_eq_ofNat (by omega) (by omega)]
    exact ⟨fun k => by omega, fun k => absurd k.1 h⟩

/-- The second expert's mark as the kernel computes it. -/
theorem mark2 (W : Words g p a1 a2 i1 i2 f1 rt f2 w1 w2) (e : Fin 16) (c : Fin 160) (r : Fin 512) :
    IntOp.cmpi .eq (BitVec.ofNat 32 (c : ℕ))
      (Scalar.select (IntOp.andi (IntOp.cmpi .eq (i2 (ix2 0 r)) (BitVec.ofNat 32 (e : ℕ))) (rt (ix2 0 r))) (w2 (ix2 0 r)) 4294967295#32) = 1#1
      ↔ second (g r) = e ∧ Routed (p r) (g r) ∧ a2 r = c := by
  classical
  have h1 := W.ha2 r
  have hand : IntOp.andi (IntOp.cmpi .eq (i2 (ix2 0 r)) (BitVec.ofNat 32 (e : ℕ))) (rt (ix2 0 r)) = 1#1
      ↔ second (g r) = e ∧ Routed (p r) (g r) := by
    have hb : ∀ x y : BitVec 1, IntOp.andi x y = 1#1 ↔ x = 1#1 ∧ y = 1#1 := by decide
    rw [hb, W.hrt, W.hi2, cmpi_eq_ofNat (by omega) (by omega), Fin.ext_iff]
  rw [select_iff _ _ hand]
  by_cases h : second (g r) = e ∧ Routed (p r) (g r)
  · rw [if_pos h, W.hw2 r h.2, cmpi_eq_ofNat (by omega) (by omega)]
    exact ⟨fun k => ⟨h.1, h.2, k.symm⟩, fun k => k.2.2.symm⟩
  · rw [if_neg h, show (4294967295#32 : BitVec 32) = BitVec.ofNat 32 4294967295 from rfl,
      cmpi_eq_ofNat (by omega) (by omega)]
    exact ⟨fun k => by omega, fun k => absurd ⟨k.1, k.2.1⟩ h⟩

/-- Two selects, the second expert's mark first, as the tile's weight. -/
theorem selW (W : Words g p a1 a2 i1 i2 f1 rt f2 w1 w2) (e : Fin 16) (c : Fin 160) (r : Fin 512) {m1 m2 : BitVec 1}
    (h1 : m1 = 1#1 ↔ best (g r) = e ∧ a1 r = c) (h2 : m2 = 1#1 ↔ second (g r) = e ∧ Routed (p r) (g r) ∧ a2 r = c) :
    Scalar.select m2 (f2 (ix2 0 r)) (Scalar.select m1 (f1 (ix2 0 r)) 0) = tileW g p a1 a2 e c r := by
  classical
  unfold tileW
  rw [select_iff _ _ h2, select_iff _ _ h1]
  by_cases k2 : second (g r) = e ∧ Routed (p r) (g r) ∧ a2 r = c
  · rw [if_pos k2, if_pos k2, W.hf2 r k2.2.1, k2.2.2, ind_true c.isLt]; simp
  · rw [if_neg k2, if_neg k2]
    by_cases k1 : best (g r) = e ∧ a1 r = c
    · rw [if_pos k1, if_pos k1, W.hf1 r, k1.2, ind_true c.isLt]; simp
    · rw [if_neg k1, if_neg k1]

/-- One where either mark is set, as the tile's mark. -/
theorem selM (e : Fin 16) (c : Fin 160) (r : Fin 512) {m1 m2 : BitVec 1}
    (h1 : m1 = 1#1 ↔ best (g r) = e ∧ a1 r = c) (h2 : m2 = 1#1 ↔ second (g r) = e ∧ Routed (p r) (g r) ∧ a2 r = c) :
    Scalar.select (IntOp.ori m1 m2) (1 : EReal) 0 = tileM g p a1 a2 e c r := by
  classical
  have hb : ∀ x y : BitVec 1, IntOp.ori x y = 1#1 ↔ y = 1#1 ∨ x = 1#1 := by decide
  unfold tileM
  rw [select_iff _ _ (hb m1 m2), ite_or, if_congr h2 rfl (if_congr h1 rfl rfl)]

/-- The slot numbers 0 to 159, at every token. -/
abbrev slots : IVec S160x512 32 := iota .tc S160x512 32 [0] iota_S160x512_d0_w32

/-- The weights stored for expert 0. -/
theorem weight0 (p1 p2 : FVec Ideal S1x512 .f32) (W : Words g p a1 a2 i1 i2 f1 rt f2 (k0_pay41 p1) (k0_pay42 p2)) (c : Fin 160) (r : Fin 512) :
    k0_pay45 (F := Ideal) f1 f2 (k0_pay43 i1 p1) (k0_pay44 i2 p2 rt) (ix3 0 c r) = tileW g p a1 a2 0 c r := by
  pointwise [k0_pay45, k0_pay43, k0_pay44]
  exact selW W 0 c r (mark1 W 0 c r) (mark2 W 0 c r)

/-- The marks stored for expert 0. -/
theorem markAt0 (p1 p2 : FVec Ideal S1x512 .f32) (W : Words g p a1 a2 i1 i2 f1 rt f2 (k0_pay41 p1) (k0_pay42 p2)) (c : Fin 160) (r : Fin 512) :
    k0_pay46 (F := Ideal) (k0_pay43 i1 p1) (k0_pay44 i2 p2 rt) (ix3 0 c r) = tileM g p a1 a2 0 c r := by
  pointwise [k0_pay46, k0_pay43, k0_pay44]
  exact selM 0 c r (mark1 W 0 c r) (mark2 W 0 c r)

/-- The weights stored for expert 1. -/
theorem weight1 (W : Words g p a1 a2 i1 i2 f1 rt f2 w1 w2) (c : Fin 160) (r : Fin 512) :
    k0_pay51 (F := Ideal) (k0_pay49 (F := Ideal) i1 i2 f1 rt f2 w1 w2 slots) (ix3 0 c r) = tileW g p a1 a2 1 c r := by
  pointwise [k0_pay51, k0_pay49, k0_pay47, k0_pay48]
  exact selW W 1 c r (mark1 W 1 c r) (mark2 W 1 c r)

/-- The marks stored for expert 1. -/
theorem markAt1 (W : Words g p a1 a2 i1 i2 f1 rt f2 w1 w2) (c : Fin 160) (r : Fin 512) :
    k0_pay52 (F := Ideal) (k0_pay50 (F := Ideal) i1 i2 rt w1 w2 slots) (ix3 0 c r) = tileM g p a1 a2 1 c r := by
  pointwise [k0_pay52, k0_pay50, k0_pay47, k0_pay48]
  exact selM 1 c r (mark1 W 1 c r) (mark2 W 1 c r)

/-- The weights stored for expert 2. -/
theorem weight2 (W : Words g p a1 a2 i1 i2 f1 rt f2 w1 w2) (c : Fin 160) (r : Fin 512) :
    k0_pay55 (F := Ideal) i1 i2 f1 rt f2 w1 w2 slots (ix3 0 c r) = tileW g p a1 a2 2 c r := by
  pointwise [k0_pay55, k0_pay53, k0_pay54]
  exact selW W 2 c r (mark1 W 2 c r) (mark2 W 2 c r)

/-- The marks stored for expert 2. -/
theorem markAt2 (W : Words g p a1 a2 i1 i2 f1 rt f2 w1 w2) (c : Fin 160) (r : Fin 512) :
    k0_pay56 (F := Ideal) i1 i2 rt w1 w2 slots (ix3 0 c r) = tileM g p a1 a2 2 c r := by
  pointwise [k0_pay56, k0_pay53, k0_pay54]
  exact selM 2 c r (mark1 W 2 c r) (mark2 W 2 c r)

/-- The weights stored for expert 3. -/
theorem weight3 (W : Words g p a1 a2 i1 i2 f1 rt f2 w1 w2) (c : Fin 160) (r : Fin 512) :
    k0_pay60 (F := Ideal) i1 i2 f1 rt f2 w1 w2 slots k0_pay57 (ix3 0 c r) = tileW g p a1 a2 3 c r := by
  pointwise [k0_pay60, k0_pay57, k0_pay58, k0_pay59]
  exact selW W 3 c r (mark1 W 3 c r) (mark2 W 3 c r)

/-- The marks stored for expert 3. -/
theorem markAt3 (W : Words g p a1 a2 i1 i2 f1 rt f2 w1 w2) (c : Fin 160) (r : Fin 512) :
    k0_pay61 (F := Ideal) i1 i2 rt w1 w2 slots k0_pay57 (ix3 0 c r) = tileM g p a1 a2 3 c r := by
  pointwise [k0_pay61, k0_pay57, k0_pay58, k0_pay59]
  exact selM 3 c r (mark1 W 3 c r) (mark2 W 3 c r)

/-- The weights stored for expert 4. -/
theorem weight4 (W : Words g p a1 a2 i1 i2 f1 rt f2 w1 w2) (c : Fin 160) (r : Fin 512) :
    k0_pay64 (F := Ideal) f1 f2 (k0_pay62 i1 w1 slots) (k0_pay63 i2 rt w2 slots) (ix3 0 c r) = tileW g p a1 a2 4 c r := by
  pointwise [k0_pay64, k0_pay62, k0_pay63]
  exact selW W 4 c r (mark1 W 4 c r) (mark2 W 4 c r)

/-- The marks stored for expert 4. -/
theorem markAt4 (W : Words g p a1 a2 i1 i2 f1 rt f2 w1 w2) (c : Fin 160) (r : Fin 512) :
    k0_pay65 (F := Ideal) (k0_pay62 i1 w1 slots) (k0_pay63 i2 rt w2 slots) (ix3 0 c r) = tileM g p a1 a2 4 c r := by
  pointwise [k0_pay65, k0_pay62, k0_pay63]
  exact selM 4 c r (mark1 W 4 c r) (mark2 W 4 c r)

/-- The weights stored for expert 5. -/
theorem weight5 (W : Words g p a1 a2 i1 i2 f1 rt f2 w1 w2) (c : Fin 160) (r : Fin 512) :
    k0_pay70 (F := Ideal) (k0_pay68 (F := Ideal) i1 i2 f1 rt f2 w1 w2 slots) (ix3 0 c r) = tileW g p a1 a2 5 c r := by
  pointwise [k0_pay70, k0_pay68, k0_pay66, k0_pay67]
  exact selW W 5 c r (mark1 W 5 c r) (mark2 W 5 c r)

/-- The marks stored for expert 5. -/
theorem markAt5 (W : Words g p a1 a2 i1 i2 f1 rt f2 w1 w2) (c : Fin 160) (r : Fin 512) :
    k0_pay71 (F := Ideal) (k0_pay69 (F := Ideal) i1 i2 rt w1 w2 slots) (ix3 0 c r) = tileM g p a1 a2 5 c r := by
  pointwise [k0_pay71, k0_pay69, k0_pay66, k0_pay67]
  exact selM 5 c r (mark1 W 5 c r) (mark2 W 5 c r)

/-- The weights stored for expert 6. -/
theorem weight6 (W : Words g p a1 a2 i1 i2 f1 rt f2 w1 w2) (c : Fin 160) (r : Fin 512) :
    k0_pay74 (F := Ideal) i1 i2 f1 rt f2 w1 w2 slots (ix3 0 c r) = tileW g p a1 a2 6 c r := by
  pointwise [k0_pay74, k0_pay72, k0_pay73]
  exact selW W 6 c r (mark1 W 6 c r) (mark2 W 6 c r)

/-- The marks stored for expert 6. -/
theorem markAt6 (W : Words g p a1 a2 i1 i2 f1 rt f2 w1 w2) (c : Fin 160) (r : Fin 512) :
    k0_pay75 (F := Ideal) i1 i2 rt w1 w2 slots (ix3 0 c r) = tileM g p a1 a2 6 c r := by
  pointwise [k0_pay75, k0_pay72, k0_pay73]
  exact selM 6 c r (mark1 W 6 c r) (mark2 W 6 c r)

/-- The weights stored for expert 7. -/
theorem weight7 (W : Words g p a1 a2 i1 i2 f1 rt f2 w1 w2) (c : Fin 160) (r : Fin 512) :
    k0_pay79 (F := Ideal) i1 i2 f1 rt f2 w1 w2 slots k0_pay76 (ix3 0 c r) = tileW g p a1 a2 7 c r := by
  pointwise [k0_pay79, k0_pay76, k0_pay77, k0_pay78]
  exact selW W 7 c r (mark1 W 7 c r) (mark2 W 7 c r)

/-- The marks stored for expert 7. -/
theorem markAt7 (W : Words g p a1 a2 i1 i2 f1 rt f2 w1 w2) (c : Fin 160) (r : Fin 512) :
    k0_pay80 (F := Ideal) i1 i2 rt w1 w2 slots k0_pay76 (ix3 0 c r) = tileM g p a1 a2 7 c r := by
  pointwise [k0_pay80, k0_pay76, k0_pay77, k0_pay78]
  exact selM 7 c r (mark1 W 7 c r) (mark2 W 7 c r)

/-- The weights stored for expert 8. -/
theorem weight8 (W : Words g p a1 a2 i1 i2 f1 rt f2 w1 w2) (c : Fin 160) (r : Fin 512) :
    k0_pay83 (F := Ideal) f1 f2 (k0_pay81 i1 w1 slots) (k0_pay82 i2 rt w2 slots) (ix3 0 c r) = tileW g p a1 a2 8 c r := by
  pointwise [k0_pay83, k0_pay81, k0_pay82]
  exact selW W 8 c r (mark1 W 8 c r) (mark2 W 8 c r)

/-- The marks stored for expert 8. -/
theorem markAt8 (W : Words g p a1 a2 i1 i2 f1 rt f2 w1 w2) (c : Fin 160) (r : Fin 512) :
    k0_pay84 (F := Ideal) (k0_pay81 i1 w1 slots) (k0_pay82 i2 rt w2 slots) (ix3 0 c r) = tileM g p a1 a2 8 c r := by
  pointwise [k0_pay84, k0_pay81, k0_pay82]
  exact selM 8 c r (mark1 W 8 c r) (mark2 W 8 c r)

/-- The weights stored for expert 9. -/
theorem weight9 (W : Words g p a1 a2 i1 i2 f1 rt f2 w1 w2) (c : Fin 160) (r : Fin 512) :
    k0_pay89 (F := Ideal) (k0_pay87 (F := Ideal) i1 i2 f1 rt f2 w1 w2 slots) (ix3 0 c r) = tileW g p a1 a2 9 c r := by
  pointwise [k0_pay89, k0_pay87, k0_pay85, k0_pay86]
  exact selW W 9 c r (mark1 W 9 c r) (mark2 W 9 c r)

/-- The marks stored for expert 9. -/
theorem markAt9 (W : Words g p a1 a2 i1 i2 f1 rt f2 w1 w2) (c : Fin 160) (r : Fin 512) :
    k0_pay90 (F := Ideal) (k0_pay88 (F := Ideal) i1 i2 rt w1 w2 slots) (ix3 0 c r) = tileM g p a1 a2 9 c r := by
  pointwise [k0_pay90, k0_pay88, k0_pay85, k0_pay86]
  exact selM 9 c r (mark1 W 9 c r) (mark2 W 9 c r)

/-- The weights stored for expert 10. -/
theorem weight10 (W : Words g p a1 a2 i1 i2 f1 rt f2 w1 w2) (c : Fin 160) (r : Fin 512) :
    k0_pay93 (F := Ideal) i1 i2 f1 rt f2 w1 w2 slots (ix3 0 c r) = tileW g p a1 a2 10 c r := by
  pointwise [k0_pay93, k0_pay91, k0_pay92]
  exact selW W 10 c r (mark1 W 10 c r) (mark2 W 10 c r)

/-- The marks stored for expert 10. -/
theorem markAt10 (W : Words g p a1 a2 i1 i2 f1 rt f2 w1 w2) (c : Fin 160) (r : Fin 512) :
    k0_pay94 (F := Ideal) i1 i2 rt w1 w2 slots (ix3 0 c r) = tileM g p a1 a2 10 c r := by
  pointwise [k0_pay94, k0_pay91, k0_pay92]
  exact selM 10 c r (mark1 W 10 c r) (mark2 W 10 c r)

/-- The weights stored for expert 11. -/
theorem weight11 (W : Words g p a1 a2 i1 i2 f1 rt f2 w1 w2) (c : Fin 160) (r : Fin 512) :
    k0_pay98 (F := Ideal) i1 i2 f1 rt f2 w1 w2 slots k0_pay95 (ix3 0 c r) = tileW g p a1 a2 11 c r := by
  pointwise [k0_pay98, k0_pay95, k0_pay96, k0_pay97]
  exact selW W 11 c r (mark1 W 11 c r) (mark2 W 11 c r)

/-- The marks stored for expert 11. -/
theorem markAt11 (W : Words g p a1 a2 i1 i2 f1 rt f2 w1 w2) (c : Fin 160) (r : Fin 512) :
    k0_pay99 (F := Ideal) i1 i2 rt w1 w2 slots k0_pay95 (ix3 0 c r) = tileM g p a1 a2 11 c r := by
  pointwise [k0_pay99, k0_pay95, k0_pay96, k0_pay97]
  exact selM 11 c r (mark1 W 11 c r) (mark2 W 11 c r)

/-- The weights stored for expert 12. -/
theorem weight12 (W : Words g p a1 a2 i1 i2 f1 rt f2 w1 w2) (c : Fin 160) (r : Fin 512) :
    k0_pay102 (F := Ideal) f1 f2 (k0_pay100 i1 w1 slots) (k0_pay101 i2 rt w2 slots) (ix3 0 c r) = tileW g p a1 a2 12 c r := by
  pointwise [k0_pay102, k0_pay100, k0_pay101]
  exact selW W 12 c r (mark1 W 12 c r) (mark2 W 12 c r)

/-- The marks stored for expert 12. -/
theorem markAt12 (W : Words g p a1 a2 i1 i2 f1 rt f2 w1 w2) (c : Fin 160) (r : Fin 512) :
    k0_pay103 (F := Ideal) (k0_pay100 i1 w1 slots) (k0_pay101 i2 rt w2 slots) (ix3 0 c r) = tileM g p a1 a2 12 c r := by
  pointwise [k0_pay103, k0_pay100, k0_pay101]
  exact selM 12 c r (mark1 W 12 c r) (mark2 W 12 c r)

/-- The weights stored for expert 13. -/
theorem weight13 (W : Words g p a1 a2 i1 i2 f1 rt f2 w1 w2) (c : Fin 160) (r : Fin 512) :
    k0_pay108 (F := Ideal) (k0_pay106 (F := Ideal) i1 i2 f1 rt f2 w1 w2 slots) (ix3 0 c r) = tileW g p a1 a2 13 c r := by
  pointwise [k0_pay108, k0_pay106, k0_pay104, k0_pay105]
  exact selW W 13 c r (mark1 W 13 c r) (mark2 W 13 c r)

/-- The marks stored for expert 13. -/
theorem markAt13 (W : Words g p a1 a2 i1 i2 f1 rt f2 w1 w2) (c : Fin 160) (r : Fin 512) :
    k0_pay109 (F := Ideal) (k0_pay107 (F := Ideal) i1 i2 rt w1 w2 slots) (ix3 0 c r) = tileM g p a1 a2 13 c r := by
  pointwise [k0_pay109, k0_pay107, k0_pay104, k0_pay105]
  exact selM 13 c r (mark1 W 13 c r) (mark2 W 13 c r)

/-- The weights stored for expert 14. -/
theorem weight14 (W : Words g p a1 a2 i1 i2 f1 rt f2 w1 w2) (c : Fin 160) (r : Fin 512) :
    k0_pay112 (F := Ideal) i1 i2 f1 rt f2 w1 w2 slots (ix3 0 c r) = tileW g p a1 a2 14 c r := by
  pointwise [k0_pay112, k0_pay110, k0_pay111]
  exact selW W 14 c r (mark1 W 14 c r) (mark2 W 14 c r)

/-- The marks stored for expert 14. -/
theorem markAt14 (W : Words g p a1 a2 i1 i2 f1 rt f2 w1 w2) (c : Fin 160) (r : Fin 512) :
    k0_pay113 (F := Ideal) i1 i2 rt w1 w2 slots (ix3 0 c r) = tileM g p a1 a2 14 c r := by
  pointwise [k0_pay113, k0_pay110, k0_pay111]
  exact selM 14 c r (mark1 W 14 c r) (mark2 W 14 c r)

/-- The weights stored for expert 15. -/
theorem weight15 (W : Words g p a1 a2 i1 i2 f1 rt f2 w1 w2) (c : Fin 160) (r : Fin 512) :
    k0_pay3 (F := Ideal) i1 i2 f1 rt f2 w1 w2 slots k0_pay114 (ix3 0 c r) = tileW g p a1 a2 15 c r := by
  pointwise [k0_pay3, k0_pay114, k0_pay1, k0_pay2]
  exact selW W 15 c r (mark1 W 15 c r) (mark2 W 15 c r)

/-- The marks stored for expert 15. -/
theorem markAt15 (W : Words g p a1 a2 i1 i2 f1 rt f2 w1 w2) (c : Fin 160) (r : Fin 512) :
    k0_pay4 (F := Ideal) i1 i2 rt w1 w2 slots k0_pay114 (ix3 0 c r) = tileM g p a1 a2 15 c r := by
  pointwise [k0_pay4, k0_pay114, k0_pay1, k0_pay2]
  exact selM 15 c r (mark1 W 15 c r) (mark2 W 15 c r)

end Cert.KernelIdeal.Block

end
-- ==== Proof.KWords.lean ====
/- The words and weights of one block, from its inputs and the counts carried into it. -/
module

public import proofs.«01_k».proof.Proof.KTile

@[expose] public section

set_option maxRecDepth 16384

noncomputable section

open Idealize.ShloMosaic Idealize.ShloMosaic.TcCoe Idealize.SL.Sem

namespace Cert.KernelIdeal.Block

open Cert.KernelIdeal Cert.KernelIdeal.Gen Gating

/-- The experts' numbers 0 to 15, at every token. -/
abbrev experts : IVec S16x512 32 := iota .tc S16x512 32 [0] iota_S16x512_d0_w32

/-- The array of expert numbers. -/
theorem experts_at (e : Fin 16) (r : Fin 512) : experts (ix2 e r) = BitVec.ofNat 32 (e : ℕ) := by
  pointwise

variable (x0 : Vec Ideal S1x512x4096 .f32) (x1 : Vec Ideal S4096x16 .f32) (x2 : Vec Ideal S1x1x512 .f32)
  (c1 c2 : Vec Ideal S16x1 .f32)

/-- The draws of the block's tokens. -/
def draws (r : Fin 512) : EReal := x2 (ix3 0 0 r)

/-- The block's best experts, one row per expert. -/
abbrev firsts : FVec Ideal S16x512 .f32 := k0_pay22 (k0_pay15 x0 x1) experts (k0_pay17 x0 x1)

/-- The block's second experts where they are used, one row per expert. -/
abbrev seconds : FVec Ideal S16x512 .f32 := k0_pay26 (k0_pay15 x0 x1) experts (k0_pay17 x0 x1) x2

/-- The slots at the best experts, as floats. -/
abbrev pos1 : FVec Ideal S1x512 .f32 :=
  k0_pay30 (firsts x0 x1) (k0_pay28 (k0_pay15 x0 x1) experts (k0_pay17 x0 x1)) c1

/-- The slots at the second experts, as floats. -/
abbrev pos2 : FVec Ideal S1x512 .f32 :=
  k0_pay31 (seconds x0 x1 x2) (k0_pay29 (k0_pay15 x0 x1) experts (k0_pay17 x0 x1) x2) c2

/-- The first weights, kept where there is room. -/
abbrev w1f : FVec Ideal S1x512 .f32 :=
  k0_pay32 (firsts x0 x1) (k0_pay24 (k0_pay15 x0 x1) experts (k0_pay17 x0 x1))
    (k0_pay28 (k0_pay15 x0 x1) experts (k0_pay17 x0 x1)) c1

/-- The second weights, kept where there is room. -/
abbrev w2f : FVec Ideal S1x512 .f32 :=
  k0_pay34 (k0_pay25 (k0_pay15 x0 x1) experts (k0_pay17 x0 x1)) (seconds x0 x1 x2)
    (k0_pay29 (k0_pay15 x0 x1) experts (k0_pay17 x0 x1) x2) c2

/-- The mark of a token's best expert, from the block's inputs. -/
theorem firsts_at (e : Fin 16) (r : Fin 512) :
    firsts x0 x1 (ix2 e r) = ((ind (best (gates x0 x1 r) = e) : ℕ) : EReal) :=
  pay22_at (pay15_at x0 x1) experts_at (pay17_at x0 x1) e r

/-- The mark of a routed token's second expert, from the block's inputs. -/
theorem seconds_at (e : Fin 16) (r : Fin 512) :
    seconds x0 x1 x2 (ix2 e r)
      = ((ind (second (gates x0 x1 r) = e ∧ Routed (draws x2 r) (gates x0 x1 r)) : ℕ) : EReal) :=
  pay26_at (pay15_at x0 x1) experts_at (pay17_at x0 x1) (fun _ => rfl) e r

/-- A block has at most 512 earlier first choices. -/
theorem early1_le (g : Fin 512 → Row) (e : Fin 16) (r : Fin 512) : early1 g e r ≤ 512 := by
  unfold early1
  refine (Finset.sum_le_card_nsmul _ _ 1 fun i _ => ?_).trans (by simp)
  split
  · exact ind_le _
  · omega

/-- A block has at most 512 earlier second choices. -/
theorem early2_le (g : Fin 512 → Row) (p : Fin 512 → EReal) (e : Fin 16) (r : Fin 512) : early2 g p e r ≤ 512 := by
  unfold early2
  refine (Finset.sum_le_card_nsmul _ _ 1 fun i _ => ?_).trans (by simp)
  split
  · exact ind_le _
  · omega

/-- The block's words are those of its tokens' gating, the slots counted from what was carried in. -/
theorem words {N1 N2 : Fin 16 → ℕ} (hc1 : ∀ e, c1 (ix2 e 0) = ((N1 e : ℕ) : EReal))
    (hc2 : ∀ e, c2 (ix2 e 0) = ((N2 e : ℕ) : EReal)) (hN1 : ∀ e, N1 e ≤ 2048) (hN2 : ∀ e, N2 e ≤ 2048) :
    Words (gates x0 x1) (draws x2) (at1 (gates x0 x1) N1) (at2 (gates x0 x1) (draws x2) N2)
      (k0_pay18 (k0_pay15 x0 x1) experts (k0_pay17 x0 x1)) (k0_pay21 (k0_pay15 x0 x1) experts (k0_pay17 x0 x1))
      (w1f x0 x1 c1) (k0_pay33 (seconds x0 x1 x2)) (w2f x0 x1 x2 c2)
      (k0_pay41 (pos1 x0 x1 c1)) (k0_pay42 (pos2 x0 x1 x2 c2)) := by
  have hx1 := pay28_at (pay15_at x0 x1) experts_at (pay17_at x0 x1)
  have hx2 := pay29_at (pay15_at x0 x1) experts_at (pay17_at x0 x1) (x2 := x2) (p := draws x2) (fun _ => rfl)
  have ha1 : ∀ r, at1 (gates x0 x1) N1 r < 2 ^ 31 := by
    intro r; unfold at1
    have h1 := early1_le (gates x0 x1) (best (gates x0 x1 r)) r
    have h2 := hN1 (best (gates x0 x1 r))
    omega
  have ha2 : ∀ r, at2 (gates x0 x1) (draws x2) N2 r < 2 ^ 31 := by
    intro r; unfold at2
    have h1 := early2_le (gates x0 x1) (draws x2) (second (gates x0 x1 r)) r
    have h2 := hN2 (second (gates x0 x1 r))
    omega
  exact {
    hi1 := pay18_at (pay15_at x0 x1) experts_at (pay17_at x0 x1)
    hi2 := pay21_at (pay15_at x0 x1) experts_at (pay17_at x0 x1)
    hrt := pay33_at (seconds_at x0 x1 x2)
    hw1 := fun r => pay41_at (firsts_at x0 x1) hx1 hc1 r (ha1 r)
    hw2 := fun r hr => pay42_at (seconds_at x0 x1 x2) hx2 hc2 r hr (ha2 r)
    hf1 := pay32_at (firsts_at x0 x1) hx1 hc1 (pay24_at (pay15_at x0 x1) experts_at (pay17_at x0 x1))
    hf2 := fun r hr => pay34_at (seconds_at x0 x1 x2) hx2 hc2 (pay25_at (pay15_at x0 x1) experts_at (pay17_at x0 x1)) r hr
    ha1 := ha1
    ha2 := ha2 }

/-- Expert `k`'s tile, read through the whole block of 16 tiles. -/
theorem piece (f : Fin 16 → ℕ → Fin 512 → EReal) (v : FVec Ideal S1x160x512 .f32) (y : S1x2560x512.Idx) (k : Fin 16)
    (hv : ∀ (c : Fin 160) (r : Fin 512), v (ix3 0 c r) = f k c r) (x : S1x160x512.Idx)
    (h1 : (y 1 : ℕ) = 160 * (k : ℕ) + (x 1 : ℕ)) (h2 : (y 2 : ℕ) = (x 2 : ℕ)) (hk : (y 1 : ℕ) / 160 < 16) (h3 : (y 2 : ℕ) < 512) :
    v x = f ⟨(y 1 : ℕ) / 160, hk⟩ ((y 1 : ℕ) % 160) ⟨(y 2 : ℕ), h3⟩ := by
  have hx1 : (x 1 : ℕ) < 160 := (x 1).isLt
  have hx2 : (x 2 : ℕ) < 512 := (x 2).isLt
  have e1 : (⟨(y 1 : ℕ) / 160, hk⟩ : Fin 16) = k := by ext; show (y 1 : ℕ) / 160 = k; omega
  have e2 : (y 1 : ℕ) % 160 = (x 1 : ℕ) := by omega
  have e3 : (⟨(y 2 : ℕ), h3⟩ : Fin 512) = ⟨(x 2 : ℕ), hx2⟩ := by ext; exact h2
  have hx : x = ix3 0 ⟨(x 1 : ℕ), hx1⟩ ⟨(x 2 : ℕ), hx2⟩ := by
    funext a
    fin_cases a
    · exact Fin.ext (by show (x 0 : ℕ) = 0; have : (x 0 : ℕ) < 1 := (x 0).isLt; omega)
    · rfl
    · rfl
  rw [e1, e2, e3]
  exact (congrArg v hx).trans (hv _ _)

end Cert.KernelIdeal.Block

end
-- ==== Proof.KOuts.lean ====
/- What a grid point leaves in each buffer, as the block's payloads over its inputs and what the point before left. -/
module

public import proofs.«01_k».proof.Proof.Gen.KernelIdeal.Frame
public import proofs.«01_k».proof.Proof.KWords
public import Idealize.ShloMosaic.Lib.Pipeline.ValueKit

@[expose] public section

set_option maxRecDepth 16384

noncomputable section

open Idealize.ShloMosaic Idealize.ShloMosaic.TcCoe Idealize.SL.Sem

namespace Cert.KernelIdeal.Outs

open Cert.KernelIdeal Cert.KernelIdeal.Gen Gating Block

variable (m : (ℓ : Loc nD τ sig) → Buf (Elt Ideal) ℓ) (c : Dev nD)

/-- The block of tokens at a point. -/
abbrev bx (t : Fin cfg0.N) : Vec Ideal S1x512x4096 .f32 := iblk m c 0 t
/-- The gating weights, whole at every point. -/
abbrev bw (t : Fin cfg0.N) : Vec Ideal S4096x16 .f32 := iblk m c 1 t
/-- The block of draws at a point. -/
abbrev bp (t : Fin cfg0.N) : Vec Ideal S1x1x512 .f32 := iblk m c 2 t

/-- What the point before left. -/
abbrev prev (t : Fin cfg0.N) := outsAt0 m c (t.val - 1) (Nat.lt_of_le_of_lt (Nat.sub_le _ _) t.isLt)

/-- The first counts carried into a point: zero at a batch's first block. -/
def inC1 (t : Fin cfg0.N) : Vec Ideal S16x1 .f32 := if t.val % 4 = 0 then k0_pay7 (F := Ideal) else (prev m c t).2.2.2.2.1
/-- The second counts carried into a point. -/
def inC2 (t : Fin cfg0.N) : Vec Ideal S16x1 .f32 := if t.val % 4 = 0 then k0_pay8 (F := Ideal) else (prev m c t).2.2.2.2.2.1
/-- The summed gates carried into a point. -/
def inSp (t : Fin cfg0.N) : Vec Ideal S16x1 .f32 := if t.val % 4 = 0 then k0_pay9 (F := Ideal) else (prev m c t).2.2.2.2.2.2.1
/-- The counts of best experts carried into a point. -/
def inSd (t : Fin cfg0.N) : Vec Ideal S16x1 .f32 := if t.val % 4 = 0 then k0_pay10 (F := Ideal) else (prev m c t).2.2.2.2.2.2.2
/-- The balance loss carried into a point. -/
def inBal (t : Fin cfg0.N) : Vec Ideal S1x1 .f32 := if t.val % 16 = 0 then k0_pay5 (F := Ideal) else (prev m c t).2.2.1
/-- The z loss carried into a point. -/
def inZ (t : Fin cfg0.N) : Vec Ideal S1x1 .f32 := if t.val % 16 = 0 then k0_pay6 (F := Ideal) else (prev m c t).2.2.2.1

/-- A point adds its block to the first counts. -/
theorem c1_eq (t : Fin cfg0.N) :
    (outsAt0 m c t.val t.isLt).2.2.2.2.1 = k0_pay35 (firsts (bx m c t) (bw m c t)) (inC1 m c t) := by
  by_cases h1 : t.val % 4 = 0
  · by_cases h0 : t.val % 16 = 0
    · have h2 : ¬t.val % 4 = 3 := by omega
      rw [outsAt0_A m c t h0 h1 h2]
      dsimp only
      frame_out
      unfold inC1
      rw [if_pos h1]
    · have h2 : ¬t.val % 4 = 3 := by omega
      rw [outsAt0_D m c t h0 h1 h2]
      dsimp only
      frame_out
      unfold inC1
      rw [if_pos h1]
  · have h0 : ¬t.val % 16 = 0 := by omega
    by_cases h2 : t.val % 4 = 3
    · rw [outsAt0_C m c t h0 h1 h2]
      dsimp only
      frame_out
      unfold inC1
      rw [if_neg h1]
      rw [(Memref.isWhole_whole _).read_unread]
    · rw [outsAt0_B m c t h0 h1 h2]
      dsimp only
      frame_out
      unfold inC1
      rw [if_neg h1]
      rw [(Memref.isWhole_whole _).read_unread]

/-- A point adds its block to the second counts. -/
theorem c2_eq (t : Fin cfg0.N) :
    (outsAt0 m c t.val t.isLt).2.2.2.2.2.1 = k0_pay37 (inC2 m c t) (k0_pay36 (seconds (bx m c t) (bw m c t) (bp m c t))) := by
  by_cases h1 : t.val % 4 = 0
  · by_cases h0 : t.val % 16 = 0
    · have h2 : ¬t.val % 4 = 3 := by omega
      rw [outsAt0_A m c t h0 h1 h2]
      dsimp only
      frame_out
      unfold inC2
      rw [if_pos h1]
    · have h2 : ¬t.val % 4 = 3 := by omega
      rw [outsAt0_D m c t h0 h1 h2]
      dsimp only
      frame_out
      unfold inC2
      rw [if_pos h1]
  · have h0 : ¬t.val % 16 = 0 := by omega
    by_cases h2 : t.val % 4 = 3
    · rw [outsAt0_C m c t h0 h1 h2]
      dsimp only
      frame_out
      unfold inC2
      rw [if_neg h1]
      rw [(Memref.isWhole_whole _).read_unread]
    · rw [outsAt0_B m c t h0 h1 h2]
      dsimp only
      frame_out
      unfold inC2
      rw [if_neg h1]
      rw [(Memref.isWhole_whole _).read_unread]

/-- A point adds its block to the summed gates. -/
theorem sp_eq (t : Fin cfg0.N) :
    (outsAt0 m c t.val t.isLt).2.2.2.2.2.2.1 = k0_pay38 (k0_pay15 (bx m c t) (bw m c t)) (inSp m c t) := by
  by_cases h1 : t.val % 4 = 0
  · by_cases h0 : t.val % 16 = 0
    · have h2 : ¬t.val % 4 = 3 := by omega
      rw [outsAt0_A m c t h0 h1 h2]
      dsimp only
      frame_out
      unfold inSp
      rw [if_pos h1]
    · have h2 : ¬t.val % 4 = 3 := by omega
      rw [outsAt0_D m c t h0 h1 h2]
      dsimp only
      frame_out
      unfold inSp
      rw [if_pos h1]
  · have h0 : ¬t.val % 16 = 0 := by omega
    by_cases h2 : t.val % 4 = 3
    · rw [outsAt0_C m c t h0 h1 h2]
      dsimp only
      frame_out
      unfold inSp
      rw [if_neg h1]
      rw [(Memref.isWhole_whole _).read_unread]
    · rw [outsAt0_B m c t h0 h1 h2]
      dsimp only
      frame_out
      unfold inSp
      rw [if_neg h1]
      rw [(Memref.isWhole_whole _).read_unread]

/-- A point adds its block to the counts of best experts. -/
theorem sd_eq (t : Fin cfg0.N) :
    (outsAt0 m c t.val t.isLt).2.2.2.2.2.2.2 = k0_pay39 (firsts (bx m c t) (bw m c t)) (inSd m c t) := by
  by_cases h1 : t.val % 4 = 0
  · by_cases h0 : t.val % 16 = 0
    · have h2 : ¬t.val % 4 = 3 := by omega
      rw [outsAt0_A m c t h0 h1 h2]
      dsimp only
      frame_out
      unfold inSd
      rw [if_pos h1]
    · have h2 : ¬t.val % 4 = 3 := by omega
      rw [outsAt0_D m c t h0 h1 h2]
      dsimp only
      frame_out
      unfold inSd
      rw [if_pos h1]
  · have h0 : ¬t.val % 16 = 0 := by omega
    by_cases h2 : t.val % 4 = 3
    · rw [outsAt0_C m c t h0 h1 h2]
      dsimp only
      frame_out
      unfold inSd
      rw [if_neg h1]
      rw [(Memref.isWhole_whole _).read_unread]
    · rw [outsAt0_B m c t h0 h1 h2]
      dsimp only
      frame_out
      unfold inSd
      rw [if_neg h1]
      rw [(Memref.isWhole_whole _).read_unread]

/-- A point adds its block to the z loss. -/
theorem z_eq (t : Fin cfg0.N) :
    (outsAt0 m c t.val t.isLt).2.2.2.1 = k0_pay16 (bx m c t) (bw m c t) (inZ m c t) := by
  by_cases h1 : t.val % 4 = 0
  · by_cases h0 : t.val % 16 = 0
    · have h2 : ¬t.val % 4 = 3 := by omega
      rw [outsAt0_A m c t h0 h1 h2]
      dsimp only
      frame_out
      unfold inZ
      rw [if_pos h0]
    · have h2 : ¬t.val % 4 = 3 := by omega
      rw [outsAt0_D m c t h0 h1 h2]
      dsimp only
      frame_out
      unfold inZ
      rw [if_neg h0]
  · have h0 : ¬t.val % 16 = 0 := by omega
    by_cases h2 : t.val % 4 = 3
    · rw [outsAt0_C m c t h0 h1 h2]
      dsimp only
      frame_out
      unfold inZ
      rw [if_neg h0]
    · rw [outsAt0_B m c t h0 h1 h2]
      dsimp only
      frame_out
      unfold inZ
      rw [if_neg h0]

/-- At a batch's last block the balance loss gains the batch's term. -/
theorem bal_eq (t : Fin cfg0.N) (h2 : t.val % 4 = 3) :
    (outsAt0 m c t.val t.isLt).2.2.1 = k0_pay40 (inBal m c t) (k0_pay38 (k0_pay15 (bx m c t) (bw m c t)) (inSp m c t))
      (k0_pay39 (firsts (bx m c t) (bw m c t)) (inSd m c t)) := by
  have h1 : ¬t.val % 4 = 0 := by omega
  have h0 : ¬t.val % 16 = 0 := by omega
  rw [outsAt0_C m c t h0 h1 h2]
  dsimp only
  frame_out
  unfold inBal inSp inSd
  rw [if_neg h0, if_neg h1, if_neg h1]
  rw [(Memref.isWhole_whole _).read_unread, (Memref.isWhole_whole _).read_unread]

/-- At any other block it stays. -/
theorem bal_keep (t : Fin cfg0.N) (h2 : ¬t.val % 4 = 3) : (outsAt0 m c t.val t.isLt).2.2.1 = inBal m c t := by
  unfold inBal
  by_cases h1 : t.val % 4 = 0
  · by_cases h0 : t.val % 16 = 0
    · rw [outsAt0_A m c t h0 h1 h2, if_pos h0]
      dsimp only
      frame_out
    · rw [outsAt0_D m c t h0 h1 h2, if_neg h0]
      rfl
  · have h0 : ¬t.val % 16 = 0 := by omega
    rw [outsAt0_B m c t h0 h1 h2, if_neg h0]
    rfl

end Cert.KernelIdeal.Outs

end
-- ==== Proof.KTiles.lean ====
/- What a grid point leaves in its two big tiles, read at a slot and a token. -/
module

public import proofs.«01_k».proof.Proof.Gen.KernelIdeal.Frame
public import proofs.«01_k».proof.Proof.KOuts
public import Idealize.ShloMosaic.Lib.Pipeline.ValueKit

@[expose] public section

set_option maxRecDepth 16384

noncomputable section

open Idealize.ShloMosaic Idealize.ShloMosaic.TcCoe Idealize.SL.Sem

namespace Cert.KernelIdeal.Outs

open Cert.KernelIdeal Cert.KernelIdeal.Gen Gating Block

variable (m : (ℓ : Loc nD τ sig) → Buf (Elt Ideal) ℓ) (c : Dev nD)

/-- The weights a point leaves, at an expert's slot and a token. -/
theorem comb_at (t : Fin cfg0.N) {N1 N2 : Fin 16 → ℕ} (hc1 : ∀ e, inC1 m c t (ix2 e 0) = ((N1 e : ℕ) : EReal))
    (hc2 : ∀ e, inC2 m c t (ix2 e 0) = ((N2 e : ℕ) : EReal)) (hN1 : ∀ e, N1 e ≤ 2048) (hN2 : ∀ e, N2 e ≤ 2048)
    (y : S1x2560x512.Idx) (hk : (y 1 : ℕ) / 160 < 16) (h3 : (y 2 : ℕ) < 512) :
    (outsAt0 m c t.val t.isLt).1 y
      = tileW (gates (bx m c t) (bw m c t)) (draws (bp m c t)) (at1 (gates (bx m c t) (bw m c t)) N1)
          (at2 (gates (bx m c t) (bw m c t)) (draws (bp m c t)) N2) ⟨(y 1 : ℕ) / 160, hk⟩ ((y 1 : ℕ) % 160) ⟨(y 2 : ℕ), h3⟩ := by
  have W := words (bx m c t) (bw m c t) (bp m c t) (inC1 m c t) (inC2 m c t) hc1 hc2 hN1 hN2
  clear hc1 hc2
  unfold inC1 inC2 at W
  by_cases h1 : t.val % 4 = 0
  · by_cases h0 : t.val % 16 = 0
    · have h2 : ¬t.val % 4 = 3 := by omega
      rw [outsAt0_A m c t h0 h1 h2]
      dsimp only
      frame_out
      rw [if_pos h1, if_pos h1] at W
      clear h0 h1 h2
      canon_tiles x h
      case piece0 => exact piece (tileW _ _ _ _) _ y 15 (weight15 W) x (by omega) (by omega) hk h3
      case piece1 => exact piece (tileW _ _ _ _) _ y 14 (weight14 W) x (by omega) (by omega) hk h3
      case piece2 => exact piece (tileW _ _ _ _) _ y 13 (weight13 W) x (by omega) (by omega) hk h3
      case piece3 => exact piece (tileW _ _ _ _) _ y 12 (weight12 W) x (by omega) (by omega) hk h3
      case piece4 => exact piece (tileW _ _ _ _) _ y 11 (weight11 W) x (by omega) (by omega) hk h3
      case piece5 => exact piece (tileW _ _ _ _) _ y 10 (weight10 W) x (by omega) (by omega) hk h3
      case piece6 => exact piece (tileW _ _ _ _) _ y 9 (weight9 W) x (by omega) (by omega) hk h3
      case piece7 => exact piece (tileW _ _ _ _) _ y 8 (weight8 W) x (by omega) (by omega) hk h3
      case piece8 => exact piece (tileW _ _ _ _) _ y 7 (weight7 W) x (by omega) (by omega) hk h3
      case piece9 => exact piece (tileW _ _ _ _) _ y 6 (weight6 W) x (by omega) (by omega) hk h3
      case piece10 => exact piece (tileW _ _ _ _) _ y 5 (weight5 W) x (by omega) (by omega) hk h3
      case piece11 => exact piece (tileW _ _ _ _) _ y 4 (weight4 W) x (by omega) (by omega) hk h3
      case piece12 => exact piece (tileW _ _ _ _) _ y 3 (weight3 W) x (by omega) (by omega) hk h3
      case piece13 => exact piece (tileW _ _ _ _) _ y 2 (weight2 W) x (by omega) (by omega) hk h3
      case piece14 => exact piece (tileW _ _ _ _) _ y 1 (weight1 W) x (by omega) (by omega) hk h3
      case piece15 => exact piece (tileW _ _ _ _) _ y 0 (weight0 _ _ W) x (by omega) (by omega) hk h3
    · have h2 : ¬t.val % 4 = 3 := by omega
      rw [outsAt0_D m c t h0 h1 h2]
      dsimp only
      frame_out
      rw [if_pos h1, if_pos h1] at W
      clear h0 h1 h2
      canon_tiles x h
      case piece0 => exact piece (tileW _ _ _ _) _ y 15 (weight15 W) x (by omega) (by omega) hk h3
      case piece1 => exact piece (tileW _ _ _ _) _ y 14 (weight14 W) x (by omega) (by omega) hk h3
      case piece2 => exact piece (tileW _ _ _ _) _ y 13 (weight13 W) x (by omega) (by omega) hk h3
      case piece3 => exact piece (tileW _ _ _ _) _ y 12 (weight12 W) x (by omega) (by omega) hk h3
      case piece4 => exact piece (tileW _ _ _ _) _ y 11 (weight11 W) x (by omega) (by omega) hk h3
      case piece5 => exact piece (tileW _ _ _ _) _ y 10 (weight10 W) x (by omega) (by omega) hk h3
      case piece6 => exact piece (tileW _ _ _ _) _ y 9 (weight9 W) x (by omega) (by omega) hk h3
      case piece7 => exact piece (tileW _ _ _ _) _ y 8 (weight8 W) x (by omega) (by omega) hk h3
      case piece8 => exact piece (tileW _ _ _ _) _ y 7 (weight7 W) x (by omega) (by omega) hk h3
      case piece9 => exact piece (tileW _ _ _ _) _ y 6 (weight6 W) x (by omega) (by omega) hk h3
      case piece10 => exact piece (tileW _ _ _ _) _ y 5 (weight5 W) x (by omega) (by omega) hk h3
      case piece11 => exact piece (tileW _ _ _ _) _ y 4 (weight4 W) x (by omega) (by omega) hk h3
      case piece12 => exact piece (tileW _ _ _ _) _ y 3 (weight3 W) x (by omega) (by omega) hk h3
      case piece13 => exact piece (tileW _ _ _ _) _ y 2 (weight2 W) x (by omega) (by omega) hk h3
      case piece14 => exact piece (tileW _ _ _ _) _ y 1 (weight1 W) x (by omega) (by omega) hk h3
      case piece15 => exact piece (tileW _ _ _ _) _ y 0 (weight0 _ _ W) x (by omega) (by omega) hk h3
  · have h0 : ¬t.val % 16 = 0 := by omega
    by_cases h2 : t.val % 4 = 3
    · rw [outsAt0_C m c t h0 h1 h2]
      dsimp only
      frame_out
      rw [if_neg h1, if_neg h1] at W
      rw [(Memref.isWhole_whole _).read_unread, (Memref.isWhole_whole _).read_unread]
      clear h0 h1 h2
      canon_tiles x h
      case piece0 => exact piece (tileW _ _ _ _) _ y 15 (weight15 W) x (by omega) (by omega) hk h3
      case piece1 => exact piece (tileW _ _ _ _) _ y 14 (weight14 W) x (by omega) (by omega) hk h3
      case piece2 => exact piece (tileW _ _ _ _) _ y 13 (weight13 W) x (by omega) (by omega) hk h3
      case piece3 => exact piece (tileW _ _ _ _) _ y 12 (weight12 W) x (by omega) (by omega) hk h3
      case piece4 => exact piece (tileW _ _ _ _) _ y 11 (weight11 W) x (by omega) (by omega) hk h3
      case piece5 => exact piece (tileW _ _ _ _) _ y 10 (weight10 W) x (by omega) (by omega) hk h3
      case piece6 => exact piece (tileW _ _ _ _) _ y 9 (weight9 W) x (by omega) (by omega) hk h3
      case piece7 => exact piece (tileW _ _ _ _) _ y 8 (weight8 W) x (by omega) (by omega) hk h3
      case piece8 => exact piece (tileW _ _ _ _) _ y 7 (weight7 W) x (by omega) (by omega) hk h3
      case piece9 => exact piece (tileW _ _ _ _) _ y 6 (weight6 W) x (by omega) (by omega) hk h3
      case piece10 => exact piece (tileW _ _ _ _) _ y 5 (weight5 W) x (by omega) (by omega) hk h3
      case piece11 => exact piece (tileW _ _ _ _) _ y 4 (weight4 W) x (by omega) (by omega) hk h3
      case piece12 => exact piece (tileW _ _ _ _) _ y 3 (weight3 W) x (by omega) (by omega) hk h3
      case piece13 => exact piece (tileW _ _ _ _) _ y 2 (weight2 W) x (by omega) (by omega) hk h3
      case piece14 => exact piece (tileW _ _ _ _) _ y 1 (weight1 W) x (by omega) (by omega) hk h3
      case piece15 => exact piece (tileW _ _ _ _) _ y 0 (weight0 _ _ W) x (by omega) (by omega) hk h3
    · rw [outsAt0_B m c t h0 h1 h2]
      dsimp only
      frame_out
      rw [if_neg h1, if_neg h1] at W
      rw [(Memref.isWhole_whole _).read_unread, (Memref.isWhole_whole _).read_unread]
      clear h0 h1 h2
      canon_tiles x h
      case piece0 => exact piece (tileW _ _ _ _) _ y 15 (weight15 W) x (by omega) (by omega) hk h3
      case piece1 => exact piece (tileW _ _ _ _) _ y 14 (weight14 W) x (by omega) (by omega) hk h3
      case piece2 => exact piece (tileW _ _ _ _) _ y 13 (weight13 W) x (by omega) (by omega) hk h3
      case piece3 => exact piece (tileW _ _ _ _) _ y 12 (weight12 W) x (by omega) (by omega) hk h3
      case piece4 => exact piece (tileW _ _ _ _) _ y 11 (weight11 W) x (by omega) (by omega) hk h3
      case piece5 => exact piece (tileW _ _ _ _) _ y 10 (weight10 W) x (by omega) (by omega) hk h3
      case piece6 => exact piece (tileW _ _ _ _) _ y 9 (weight9 W) x (by omega) (by omega) hk h3
      case piece7 => exact piece (tileW _ _ _ _) _ y 8 (weight8 W) x (by omega) (by omega) hk h3
      case piece8 => exact piece (tileW _ _ _ _) _ y 7 (weight7 W) x (by omega) (by omega) hk h3
      case piece9 => exact piece (tileW _ _ _ _) _ y 6 (weight6 W) x (by omega) (by omega) hk h3
      case piece10 => exact piece (tileW _ _ _ _) _ y 5 (weight5 W) x (by omega) (by omega) hk h3
      case piece11 => exact piece (tileW _ _ _ _) _ y 4 (weight4 W) x (by omega) (by omega) hk h3
      case piece12 => exact piece (tileW _ _ _ _) _ y 3 (weight3 W) x (by omega) (by omega) hk h3
      case piece13 => exact piece (tileW _ _ _ _) _ y 2 (weight2 W) x (by omega) (by omega) hk h3
      case piece14 => exact piece (tileW _ _ _ _) _ y 1 (weight1 W) x (by omega) (by omega) hk h3
      case piece15 => exact piece (tileW _ _ _ _) _ y 0 (weight0 _ _ W) x (by omega) (by omega) hk h3

/-- The marks a point leaves, at an expert's slot and a token. -/
theorem disp_at (t : Fin cfg0.N) {N1 N2 : Fin 16 → ℕ} (hc1 : ∀ e, inC1 m c t (ix2 e 0) = ((N1 e : ℕ) : EReal))
    (hc2 : ∀ e, inC2 m c t (ix2 e 0) = ((N2 e : ℕ) : EReal)) (hN1 : ∀ e, N1 e ≤ 2048) (hN2 : ∀ e, N2 e ≤ 2048)
    (y : S1x2560x512.Idx) (hk : (y 1 : ℕ) / 160 < 16) (h3 : (y 2 : ℕ) < 512) :
    (outsAt0 m c t.val t.isLt).2.1 y
      = tileM (gates (bx m c t) (bw m c t)) (draws (bp m c t)) (at1 (gates (bx m c t) (bw m c t)) N1)
          (at2 (gates (bx m c t) (bw m c t)) (draws (bp m c t)) N2) ⟨(y 1 : ℕ) / 160, hk⟩ ((y 1 : ℕ) % 160) ⟨(y 2 : ℕ), h3⟩ := by
  have W := words (bx m c t) (bw m c t) (bp m c t) (inC1 m c t) (inC2 m c t) hc1 hc2 hN1 hN2
  clear hc1 hc2
  unfold inC1 inC2 at W
  by_cases h1 : t.val % 4 = 0
  · by_cases h0 : t.val % 16 = 0
    · have h2 : ¬t.val % 4 = 3 := by omega
      rw [outsAt0_A m c t h0 h1 h2]
      dsimp only
      frame_out
      rw [if_pos h1, if_pos h1] at W
      clear h0 h1 h2
      canon_tiles x h
      case piece0 => exact piece (tileM _ _ _ _) _ y 15 (markAt15 W) x (by omega) (by omega) hk h3
      case piece1 => exact piece (tileM _ _ _ _) _ y 14 (markAt14 W) x (by omega) (by omega) hk h3
      case piece2 => exact piece (tileM _ _ _ _) _ y 13 (markAt13 W) x (by omega) (by omega) hk h3
      case piece3 => exact piece (tileM _ _ _ _) _ y 12 (markAt12 W) x (by omega) (by omega) hk h3
      case piece4 => exact piece (tileM _ _ _ _) _ y 11 (markAt11 W) x (by omega) (by omega) hk h3
      case piece5 => exact piece (tileM _ _ _ _) _ y 10 (markAt10 W) x (by omega) (by omega) hk h3
      case piece6 => exact piece (tileM _ _ _ _) _ y 9 (markAt9 W) x (by omega) (by omega) hk h3
      case piece7 => exact piece (tileM _ _ _ _) _ y 8 (markAt8 W) x (by omega) (by omega) hk h3
      case piece8 => exact piece (tileM _ _ _ _) _ y 7 (markAt7 W) x (by omega) (by omega) hk h3
      case piece9 => exact piece (tileM _ _ _ _) _ y 6 (markAt6 W) x (by omega) (by omega) hk h3
      case piece10 => exact piece (tileM _ _ _ _) _ y 5 (markAt5 W) x (by omega) (by omega) hk h3
      case piece11 => exact piece (tileM _ _ _ _) _ y 4 (markAt4 W) x (by omega) (by omega) hk h3
      case piece12 => exact piece (tileM _ _ _ _) _ y 3 (markAt3 W) x (by omega) (by omega) hk h3
      case piece13 => exact piece (tileM _ _ _ _) _ y 2 (markAt2 W) x (by omega) (by omega) hk h3
      case piece14 => exact piece (tileM _ _ _ _) _ y 1 (markAt1 W) x (by omega) (by omega) hk h3
      case piece15 => exact piece (tileM _ _ _ _) _ y 0 (markAt0 _ _ W) x (by omega) (by omega) hk h3
    · have h2 : ¬t.val % 4 = 3 := by omega
      rw [outsAt0_D m c t h0 h1 h2]
      dsimp only
      frame_out
      rw [if_pos h1, if_pos h1] at W
      clear h0 h1 h2
      canon_tiles x h
      case piece0 => exact piece (tileM _ _ _ _) _ y 15 (markAt15 W) x (by omega) (by omega) hk h3
      case piece1 => exact piece (tileM _ _ _ _) _ y 14 (markAt14 W) x (by omega) (by omega) hk h3
      case piece2 => exact piece (tileM _ _ _ _) _ y 13 (markAt13 W) x (by omega) (by omega) hk h3
      case piece3 => exact piece (tileM _ _ _ _) _ y 12 (markAt12 W) x (by omega) (by omega) hk h3
      case piece4 => exact piece (tileM _ _ _ _) _ y 11 (markAt11 W) x (by omega) (by omega) hk h3
      case piece5 => exact piece (tileM _ _ _ _) _ y 10 (markAt10 W) x (by omega) (by omega) hk h3
      case piece6 => exact piece (tileM _ _ _ _) _ y 9 (markAt9 W) x (by omega) (by omega) hk h3
      case piece7 => exact piece (tileM _ _ _ _) _ y 8 (markAt8 W) x (by omega) (by omega) hk h3
      case piece8 => exact piece (tileM _ _ _ _) _ y 7 (markAt7 W) x (by omega) (by omega) hk h3
      case piece9 => exact piece (tileM _ _ _ _) _ y 6 (markAt6 W) x (by omega) (by omega) hk h3
      case piece10 => exact piece (tileM _ _ _ _) _ y 5 (markAt5 W) x (by omega) (by omega) hk h3
      case piece11 => exact piece (tileM _ _ _ _) _ y 4 (markAt4 W) x (by omega) (by omega) hk h3
      case piece12 => exact piece (tileM _ _ _ _) _ y 3 (markAt3 W) x (by omega) (by omega) hk h3
      case piece13 => exact piece (tileM _ _ _ _) _ y 2 (markAt2 W) x (by omega) (by omega) hk h3
      case piece14 => exact piece (tileM _ _ _ _) _ y 1 (markAt1 W) x (by omega) (by omega) hk h3
      case piece15 => exact piece (tileM _ _ _ _) _ y 0 (markAt0 _ _ W) x (by omega) (by omega) hk h3
  · have h0 : ¬t.val % 16 = 0 := by omega
    by_cases h2 : t.val % 4 = 3
    · rw [outsAt0_C m c t h0 h1 h2]
      dsimp only
      frame_out
      rw [if_neg h1, if_neg h1] at W
      rw [(Memref.isWhole_whole _).read_unread, (Memref.isWhole_whole _).read_unread]
      clear h0 h1 h2
      canon_tiles x h
      case piece0 => exact piece (tileM _ _ _ _) _ y 15 (markAt15 W) x (by omega) (by omega) hk h3
      case piece1 => exact piece (tileM _ _ _ _) _ y 14 (markAt14 W) x (by omega) (by omega) hk h3
      case piece2 => exact piece (tileM _ _ _ _) _ y 13 (markAt13 W) x (by omega) (by omega) hk h3
      case piece3 => exact piece (tileM _ _ _ _) _ y 12 (markAt12 W) x (by omega) (by omega) hk h3
      case piece4 => exact piece (tileM _ _ _ _) _ y 11 (markAt11 W) x (by omega) (by omega) hk h3
      case piece5 => exact piece (tileM _ _ _ _) _ y 10 (markAt10 W) x (by omega) (by omega) hk h3
      case piece6 => exact piece (tileM _ _ _ _) _ y 9 (markAt9 W) x (by omega) (by omega) hk h3
      case piece7 => exact piece (tileM _ _ _ _) _ y 8 (markAt8 W) x (by omega) (by omega) hk h3
      case piece8 => exact piece (tileM _ _ _ _) _ y 7 (markAt7 W) x (by omega) (by omega) hk h3
      case piece9 => exact piece (tileM _ _ _ _) _ y 6 (markAt6 W) x (by omega) (by omega) hk h3
      case piece10 => exact piece (tileM _ _ _ _) _ y 5 (markAt5 W) x (by omega) (by omega) hk h3
      case piece11 => exact piece (tileM _ _ _ _) _ y 4 (markAt4 W) x (by omega) (by omega) hk h3
      case piece12 => exact piece (tileM _ _ _ _) _ y 3 (markAt3 W) x (by omega) (by omega) hk h3
      case piece13 => exact piece (tileM _ _ _ _) _ y 2 (markAt2 W) x (by omega) (by omega) hk h3
      case piece14 => exact piece (tileM _ _ _ _) _ y 1 (markAt1 W) x (by omega) (by omega) hk h3
      case piece15 => exact piece (tileM _ _ _ _) _ y 0 (markAt0 _ _ W) x (by omega) (by omega) hk h3
    · rw [outsAt0_B m c t h0 h1 h2]
      dsimp only
      frame_out
      rw [if_neg h1, if_neg h1] at W
      rw [(Memref.isWhole_whole _).read_unread, (Memref.isWhole_whole _).read_unread]
      clear h0 h1 h2
      canon_tiles x h
      case piece0 => exact piece (tileM _ _ _ _) _ y 15 (markAt15 W) x (by omega) (by omega) hk h3
      case piece1 => exact piece (tileM _ _ _ _) _ y 14 (markAt14 W) x (by omega) (by omega) hk h3
      case piece2 => exact piece (tileM _ _ _ _) _ y 13 (markAt13 W) x (by omega) (by omega) hk h3
      case piece3 => exact piece (tileM _ _ _ _) _ y 12 (markAt12 W) x (by omega) (by omega) hk h3
      case piece4 => exact piece (tileM _ _ _ _) _ y 11 (markAt11 W) x (by omega) (by omega) hk h3
      case piece5 => exact piece (tileM _ _ _ _) _ y 10 (markAt10 W) x (by omega) (by omega) hk h3
      case piece6 => exact piece (tileM _ _ _ _) _ y 9 (markAt9 W) x (by omega) (by omega) hk h3
      case piece7 => exact piece (tileM _ _ _ _) _ y 8 (markAt8 W) x (by omega) (by omega) hk h3
      case piece8 => exact piece (tileM _ _ _ _) _ y 7 (markAt7 W) x (by omega) (by omega) hk h3
      case piece9 => exact piece (tileM _ _ _ _) _ y 6 (markAt6 W) x (by omega) (by omega) hk h3
      case piece10 => exact piece (tileM _ _ _ _) _ y 5 (markAt5 W) x (by omega) (by omega) hk h3
      case piece11 => exact piece (tileM _ _ _ _) _ y 4 (markAt4 W) x (by omega) (by omega) hk h3
      case piece12 => exact piece (tileM _ _ _ _) _ y 3 (markAt3 W) x (by omega) (by omega) hk h3
      case piece13 => exact piece (tileM _ _ _ _) _ y 2 (markAt2 W) x (by omega) (by omega) hk h3
      case piece14 => exact piece (tileM _ _ _ _) _ y 1 (markAt1 W) x (by omega) (by omega) hk h3
      case piece15 => exact piece (tileM _ _ _ _) _ y 0 (markAt0 _ _ W) x (by omega) (by omega) hk h3

end Cert.KernelIdeal.Outs

end
-- ==== Proof.Model.lean ====
/- The gating of whole arrays: each token's logits and gates, and the two losses before their last scaling. -/
module

public import proofs.«01_k».proof.Proof.Slots

@[expose] public section

noncomputable section

open Idealize.ShloMosaic

namespace Gating

/-- The tokens of four batches. -/
abbrev Tokens := Fin 4 → Fin 2048 → Fin 4096 → EReal

/-- The gating weights. -/
abbrev Weights := Fin 4096 → Fin 16 → EReal

/-- The logits of a token. -/
def logits (X : Tokens) (W : Weights) (b : Fin 4) (n : Fin 2048) : Row := fun e => ∑ d : Fin 4096, W d e * X b n d

/-- The gates of a token. -/
def gating (X : Tokens) (W : Weights) (b : Fin 4) (n : Fin 2048) : Row := gate (logits X W b n)

/-- A batch's balance: summed gates against counts of best tokens. -/
def balance (X : Tokens) (W : Weights) (b : Fin 4) : EReal := ∑ e, gateSum (gating X W b) e * bestCount (gating X W b) e

/-- A token's squared log-sum of exponentials. -/
def lseSq (X : Tokens) (W : Weights) (b : Fin 4) (n : Fin 2048) : EReal := lse (logits X W b n) * lse (logits X W b n)

end Gating

end
-- ==== Proof.KState.lean ====
/- What the counts and losses hold after each grid point. -/
module

public import proofs.«01_k».proof.Proof.KTiles
public import proofs.«01_k».proof.Proof.Model

@[expose] public section

set_option maxRecDepth 16384

noncomputable section

open Idealize.ShloMosaic Idealize.ShloMosaic.TcCoe Idealize.SL.Sem

namespace Cert.KernelIdeal.State

open Cert.KernelIdeal Cert.KernelIdeal.Gen Gating Block Outs

variable (m : (ℓ : Loc nD τ sig) → Buf (Elt Ideal) ℓ) (c : Dev nD)

/-- The tokens. -/
def X : Tokens := fun b n d => (m ((c : Thread nD τ).loc main_arg0) : Vec Ideal S4x2048x4096 .f32) (ix3 b n d)
/-- The gating weights. -/
def W : Weights := fun d e => (m ((c : Thread nD τ).loc main_arg1) : Vec Ideal S4096x16 .f32) (ix2 d e)
/-- The draws. -/
def P (b : Fin 4) (n : Fin 2048) : EReal := (m ((c : Thread nD τ).loc main_arg2) : Vec Ideal S4x2048 .f32) (ix2 b n)
/-- The gates of a batch's tokens. -/
abbrev G (b : Fin 4) : Fin 2048 → Row := gating (X m c) (W m c) b

/-- The grid has 16 steps. -/
theorem lt16 (t : Fin cfg0.N) : t.val < 16 := t.isLt

/-- The batch of a point. -/
def bt (t : Fin cfg0.N) : Fin 4 := ⟨t.val / 4, by have := lt16 t; omega⟩
/-- The block of a point within its batch. -/
def qt (t : Fin cfg0.N) : Fin 4 := ⟨t.val % 4, by omega⟩

/-- The windows of a grid step: its batch and its quarter of the tokens; all weights; the one loss cell. -/
theorem index_at : ∀ t : Fin cfg0.N, win0_0.index t = ![t.val / 4, t.val % 4, 0] ∧ win0_1.index t = ![0, 0]
    ∧ win0_2.index t = ![t.val / 4, 0, t.val % 4] ∧ win0_3.index t = ![t.val / 4, 0, t.val % 4]
    ∧ win0_4.index t = ![t.val / 4, 0, t.val % 4] ∧ win0_5.index t = ![0, 0] ∧ win0_6.index t = ![0, 0] :=
  (by decide +kernel : ∀ t : Fin grid0.N, _)

/-- The tokens of a step's block. -/
theorem bx_at (t : Fin cfg0.N) (r : Fin 512) (d : Fin 4096) : bx m c t (ix3 0 r d) = X m c (bt t) (tok (qt t) r) d := by
  unfold X bt qt tok
  blk_point [iblk, V, index_at t]

/-- The weights of a step. -/
theorem bw_at (t : Fin cfg0.N) (d : Fin 4096) (e : Fin 16) : bw m c t (ix2 d e) = W m c d e := by
  unfold W
  blk_point [iblk, V, index_at t]

/-- The draws of a step's block. -/
theorem bp_at (t : Fin cfg0.N) (r : Fin 512) : bp m c t (ix3 0 0 r) = P m c (bt t) (tok (qt t) r) := by
  unfold P bt qt tok
  unfold bp iblk
  have h : V m c main_v0 = shapeCast S4x1x2048 (m ((c : Thread nD τ).loc main_arg2)) shapeCasts_S4x2048_S4x1x2048 := by
    show StableHlo.after hostOps0 (fun b => m (c, b)) (Proc.tc.devRef main_v0) = _
    after_results
    try rfl
  show V m c main_v0 ((win0_2.blk t).view.emb (ix3 0 0 r)) = _
  rw [h]
  pointwise
  blk_ext [index_at t]

/-- The block's logits are those of its tokens. -/
theorem logit_at (t : Fin cfg0.N) (r : Fin 512) :
    logit (bx m c t) (bw m c t) r = logits (X m c) (W m c) (bt t) (tok (qt t) r) := by
  funext e
  unfold logit logits
  exact Finset.sum_congr rfl fun d _ => by rw [bx_at, bw_at]

/-- The block's gates are those of its tokens. -/
theorem gates_at (t : Fin cfg0.N) : gates (bx m c t) (bw m c t) = fun r => G m c (bt t) (tok (qt t) r) := by
  funext r
  unfold gates
  rw [logit_at]
  rfl

/-- The block's draws are those of its tokens. -/
theorem draws_at (t : Fin cfg0.N) : draws (bp m c t) = fun r => P m c (bt t) (tok (qt t) r) := by
  funext r
  exact bp_at m c t r

/-- How many of a batch's first `n` tokens have expert `e` as their best. -/
def num1 (b : Fin 4) (e : Fin 16) (n : ℕ) : ℕ := before (fun i => ind (best (G m c b i) = e)) n

/-- How many of a batch's first `n` tokens go to expert `e` as their second. -/
def num2 (b : Fin 4) (e : Fin 16) (n : ℕ) : ℕ :=
  before (fun i => ind (second (G m c b i) = e ∧ Routed (P m c b i) (G m c b i))) n

/-- A block's share of the z loss. -/
def zBlock (s : ℕ) : EReal :=
  if h : s < 16 then ∑ r : Fin 512, lseSq (X m c) (W m c) ⟨s / 4, by omega⟩ (tok ⟨s % 4, by omega⟩ r) else 0

/-- A batch's share of the balance loss. -/
def balBatch (s : ℕ) : EReal := if h : s < 4 then balance (X m c) (W m c) ⟨s, h⟩ else 0

/-- What is carried into a point: the counts and sums of the batch's blocks before it, the losses of all points before. -/
structure Inv (t : Fin cfg0.N) : Prop where
  c1 : ∀ e : Fin 16, inC1 m c t (ix2 e 0) = ((num1 m c (bt t) e (512 * (qt t : ℕ)) : ℕ) : EReal)
  c2 : ∀ e : Fin 16, inC2 m c t (ix2 e 0) = ((num2 m c (bt t) e (512 * (qt t : ℕ)) : ℕ) : EReal)
  sp : ∀ e : Fin 16, inSp m c t (ix2 e 0) = before (fun i => G m c (bt t) i e) (512 * (qt t : ℕ))
  sd : ∀ e : Fin 16, inSd m c t (ix2 e 0)
    = before (fun i => ((ind (best (G m c (bt t) i) = e) : ℕ) : EReal)) (512 * (qt t : ℕ))
  bal : inBal m c t (ix2 0 0) = ∑ s ∈ Finset.range (t.val / 4), balBatch m c s
  z : inZ m c t (ix2 0 0) = ∑ s ∈ Finset.range t.val, zBlock m c s

variable {m c} {t : Fin cfg0.N} (I : Inv m c t)
include I

/-- After a step: how many tokens of the batch so far have a given best expert. -/
theorem out_c1 (e : Fin 16) : (outsAt0 m c t.val t.isLt).2.2.2.2.1 (ix2 e 0)
    = ((num1 m c (bt t) e (512 * ((qt t : ℕ) + 1)) : ℕ) : EReal) := by
  rw [c1_eq m c t, pay35_at (firsts_at _ _) I.c1 e, gates_at]
  unfold num1
  rw [before_block]

/-- After a step: how many tokens of the batch so far are routed to a given second expert. -/
theorem out_c2 (e : Fin 16) : (outsAt0 m c t.val t.isLt).2.2.2.2.2.1 (ix2 e 0)
    = ((num2 m c (bt t) e (512 * ((qt t : ℕ) + 1)) : ℕ) : EReal) := by
  rw [c2_eq m c t, pay37_at (seconds_at _ _ _) I.c2 e, gates_at, draws_at]
  unfold num2
  rw [before_block]

/-- The carried gate sums with the block's added are those of the batch so far. -/
theorem sp_step (e : Fin 16) : k0_pay38 (k0_pay15 (bx m c t) (bw m c t)) (inSp m c t) (ix2 e 0)
    = before (fun i => G m c (bt t) i e) (512 * ((qt t : ℕ) + 1)) := by
  rw [pay38_at, I.sp e, before_block]
  refine congrArg _ (Finset.sum_congr rfl fun r _ => ?_)
  rw [pay15_at, gates_at]

/-- The carried counts of best tokens with the block's added are those of the batch so far. -/
theorem sd_step (e : Fin 16) : k0_pay39 (firsts (bx m c t) (bw m c t)) (inSd m c t) (ix2 e 0)
    = before (fun i => ((ind (best (G m c (bt t) i) = e) : ℕ) : EReal)) (512 * ((qt t : ℕ) + 1)) := by
  rw [pay39_at, I.sd e, before_block]
  refine congrArg _ (Finset.sum_congr rfl fun r _ => ?_)
  rw [firsts_at, gates_at]

/-- After a step: the batch's gate sums so far. -/
theorem out_sp (e : Fin 16) : (outsAt0 m c t.val t.isLt).2.2.2.2.2.2.1 (ix2 e 0)
    = before (fun i => G m c (bt t) i e) (512 * ((qt t : ℕ) + 1)) := by
  rw [sp_eq m c t]; exact sp_step I e

/-- After a step: the batch's counts of best tokens so far. -/
theorem out_sd (e : Fin 16) : (outsAt0 m c t.val t.isLt).2.2.2.2.2.2.2 (ix2 e 0)
    = before (fun i => ((ind (best (G m c (bt t) i) = e) : ℕ) : EReal)) (512 * ((qt t : ℕ) + 1)) := by
  rw [sd_eq m c t]; exact sd_step I e

/-- After a step: the squared log-sums of the blocks so far. -/
theorem out_z : (outsAt0 m c t.val t.isLt).2.2.2.1 (ix2 0 0) = ∑ s ∈ Finset.range (t.val + 1), zBlock m c s := by
  rw [z_eq m c t, pay16_at, I.z, Finset.sum_range_succ]
  refine congrArg _ ?_
  unfold zBlock
  rw [dif_pos (lt16 t)]
  refine Finset.sum_congr rfl fun r _ => ?_
  rw [logit_at]
  rfl

/-- After a step: the balances of the batches finished so far. -/
theorem out_bal : (outsAt0 m c t.val t.isLt).2.2.1 (ix2 0 0) = ∑ s ∈ Finset.range ((t.val + 1) / 4), balBatch m c s := by
  by_cases h : t.val % 4 = 3
  · have h4 : (t.val + 1) / 4 = t.val / 4 + 1 := by omega
    rw [bal_eq m c t h, pay40_at, I.bal, h4, Finset.sum_range_succ]
    refine congrArg _ ?_
    have hq : 512 * ((qt t : ℕ) + 1) = 2048 := by show 512 * (t.val % 4 + 1) = 2048; omega
    have hb : t.val / 4 < 4 := (bt t).isLt
    unfold balBatch
    rw [dif_pos hb]
    refine Finset.sum_congr rfl fun e _ => ?_
    rw [sp_step I e, sd_step I e, hq, before_all, before_all]
    rfl
  · have h4 : (t.val + 1) / 4 = t.val / 4 := by omega
    rw [bal_keep m c t h, I.bal, h4]

omit I
variable (m c)

/-- The first counts start at 0. -/
theorem zero7 (e : Fin 16) : k0_pay7 (F := Ideal) (ix2 e 0) = 0 := by pointwise [k0_pay7]
/-- The second counts start at 0. -/
theorem zero8 (e : Fin 16) : k0_pay8 (F := Ideal) (ix2 e 0) = 0 := by pointwise [k0_pay8]
/-- The gate sums start at 0. -/
theorem zero9 (e : Fin 16) : k0_pay9 (F := Ideal) (ix2 e 0) = 0 := by pointwise [k0_pay9]
/-- The counts of best tokens start at 0. -/
theorem zero10 (e : Fin 16) : k0_pay10 (F := Ideal) (ix2 e 0) = 0 := by pointwise [k0_pay10]
/-- The balance starts at 0. -/
theorem zero5 : k0_pay5 (F := Ideal) (ix2 0 0) = 0 := by pointwise [k0_pay5]
/-- The z sum starts at 0. -/
theorem zero6 : k0_pay6 (F := Ideal) (ix2 0 0) = 0 := by pointwise [k0_pay6]

/-- What is carried in holds at every point. -/
theorem inv : ∀ (n : ℕ) (hn : n < cfg0.N), Inv m c ⟨n, hn⟩ := by
  intro n
  induction n with
  | zero =>
    intro hn
    have hq : 512 * (qt ⟨0, hn⟩ : ℕ) = 0 := rfl
    have h : ((⟨0, hn⟩ : Fin cfg0.N) : ℕ) % 4 = 0 := rfl
    have h' : ((⟨0, hn⟩ : Fin cfg0.N) : ℕ) % 16 = 0 := rfl
    constructor
    · intro e; unfold inC1 num1; rw [if_pos h, hq, before_zero, zero7, Nat.cast_zero]
    · intro e; unfold inC2 num2; rw [if_pos h, hq, before_zero, zero8, Nat.cast_zero]
    · intro e; unfold inSp; rw [if_pos h, hq, before_zero, zero9]
    · intro e; unfold inSd; rw [if_pos h, hq, before_zero, zero10]
    · unfold inBal; rw [if_pos h', zero5, show ((⟨0, hn⟩ : Fin cfg0.N) : ℕ) / 4 = 0 from Nat.zero_div 4, Finset.sum_range_zero]
    · unfold inZ; rw [if_pos h', zero6]; rfl
  | succ n ih =>
    intro hn
    have hn' : n < cfg0.N := Nat.lt_of_succ_lt hn
    have I := ih hn'
    have h16 : ¬(n + 1) % 16 = 0 := by have := lt16 ⟨n + 1, hn⟩; dsimp only at this; omega
    have hb : inBal m c ⟨n + 1, hn⟩ (ix2 0 0) = ∑ s ∈ Finset.range ((n + 1) / 4), balBatch m c s := by
      unfold inBal; rw [if_neg h16]; exact out_bal I
    have hz : inZ m c ⟨n + 1, hn⟩ (ix2 0 0) = ∑ s ∈ Finset.range (n + 1), zBlock m c s := by
      unfold inZ; rw [if_neg h16]; exact out_z I
    by_cases h : (n + 1) % 4 = 0
    · have hq : 512 * (qt ⟨n + 1, hn⟩ : ℕ) = 0 := by show 512 * ((n + 1) % 4) = 0; omega
      refine ⟨?_, ?_, ?_, ?_, hb, hz⟩
      · intro e; unfold inC1 num1; rw [if_pos h, hq, before_zero, zero7, Nat.cast_zero]
      · intro e; unfold inC2 num2; rw [if_pos h, hq, before_zero, zero8, Nat.cast_zero]
      · intro e; unfold inSp; rw [if_pos h, hq, before_zero, zero9]
      · intro e; unfold inSd; rw [if_pos h, hq, before_zero, zero10]
    · have hq : (qt ⟨n + 1, hn⟩ : ℕ) = (qt ⟨n, hn'⟩ : ℕ) + 1 := by show (n + 1) % 4 = n % 4 + 1; omega
      have hbt : bt ⟨n + 1, hn⟩ = bt ⟨n, hn'⟩ := Fin.ext (by show (n + 1) / 4 = n / 4; omega)
      refine ⟨?_, ?_, ?_, ?_, hb, hz⟩
      · intro e; unfold inC1; rw [if_neg h, hq, hbt]; exact out_c1 I e
      · intro e; unfold inC2; rw [if_neg h, hq, hbt]; exact out_c2 I e
      · intro e; unfold inSp; rw [if_neg h, hq, hbt]; exact out_sp I e
      · intro e; unfold inSd; rw [if_neg h, hq, hbt]; exact out_sd I e

/-- The invariant holds at every grid step. -/
theorem inv_at (t : Fin cfg0.N) : Inv m c t := inv m c t.val t.isLt

/-- A block's slots at the best experts are the batch's. -/
theorem at1_eq (t : Fin cfg0.N) (r : Fin 512) :
    at1 (fun r => G m c (bt t) (tok (qt t) r)) (fun e => num1 m c (bt t) e (512 * (qt t : ℕ))) r
      = slot1 (G m c (bt t)) (tok (qt t) r) := by
  unfold at1 early1 num1 slot1
  have h := before_tok (fun i => ind (best (G m c (bt t) i) = best (G m c (bt t) (tok (qt t) r)))) (qt t) r.val
    (le_of_lt r.isLt)
  exact (Nat.add_comm _ _).trans h.symm

/-- A block's slots at the second experts are the batch's. -/
theorem at2_eq (t : Fin cfg0.N) (r : Fin 512) :
    at2 (fun r => G m c (bt t) (tok (qt t) r)) (fun r => P m c (bt t) (tok (qt t) r))
        (fun e => num2 m c (bt t) e (512 * (qt t : ℕ))) r
      = slot2 (G m c (bt t)) (P m c (bt t)) (tok (qt t) r) := by
  unfold at2 early2 num2 slot2
  have h := before_tok (fun i => ind (second (G m c (bt t) i) = second (G m c (bt t) (tok (qt t) r))
    ∧ Routed (P m c (bt t) i) (G m c (bt t) i))) (qt t) r.val (le_of_lt r.isLt)
  exact (Nat.add_comm _ _).trans h.symm

/-- A point's weights are its tokens' weights in the batch. -/
theorem comb_eq (t : Fin cfg0.N) (y : S1x2560x512.Idx) (hk : (y 1 : ℕ) / 160 < 16) (h3 : (y 2 : ℕ) < 512) :
    (outsAt0 m c t.val t.isLt).1 y
      = combine (G m c (bt t)) (P m c (bt t)) (tok (qt t) ⟨(y 2 : ℕ), h3⟩) ⟨(y 1 : ℕ) / 160, hk⟩ ((y 1 : ℕ) % 160) := by
  have I := inv_at m c t
  rw [comb_at m c t I.c1 I.c2 (fun e => before_ind_le _ _) (fun e => before_ind_le _ _) y hk h3, gates_at, draws_at]
  unfold tileW combine Fills1 Fills2
  rw [at1_eq, at2_eq]
  dsimp only
  congr

/-- A point's marks are its tokens' marks in the batch. -/
theorem disp_eq (t : Fin cfg0.N) (y : S1x2560x512.Idx) (hk : (y 1 : ℕ) / 160 < 16) (h3 : (y 2 : ℕ) < 512) :
    (outsAt0 m c t.val t.isLt).2.1 y
      = dispatch (G m c (bt t)) (P m c (bt t)) (tok (qt t) ⟨(y 2 : ℕ), h3⟩) ⟨(y 1 : ℕ) / 160, hk⟩ ((y 1 : ℕ) % 160) := by
  have I := inv_at m c t
  rw [disp_at m c t I.c1 I.c2 (fun e => before_ind_le _ _) (fun e => before_ind_le _ _) y hk h3, gates_at, draws_at]
  unfold tileM dispatch Fills1 Fills2
  rw [at1_eq, at2_eq]
  dsimp only
  congr

end Cert.KernelIdeal.State

end
-- ==== Proof.KFinal.lean ====
/- What the kernel's four result arrays end holding. -/
module

public import proofs.«01_k».proof.Proof.KState

@[expose] public section

set_option maxRecDepth 16384

noncomputable section

open Idealize.ShloMosaic Idealize.ShloMosaic.TcCoe Idealize.SL.Sem

namespace Cert.KernelIdeal.State

open Cert.KernelIdeal Cert.KernelIdeal.Gen Gating Block Outs

variable (m : (ℓ : Loc nD τ sig) → Buf (Elt Ideal) ℓ) (c : Dev nD)

/-- A row of the stacked array lies in one of 16 experts. -/
theorem lt2560 (i : S4x2560x2048.Idx) : (i 1 : ℕ) / 160 < 16 := by
  have : (i 1 : ℕ) < 2560 := (i 1).isLt
  omega

/-- The combining weights of all batches, experts' slots stacked. -/
def combArr : Vec Ideal S4x2560x2048 .f32 := fun i =>
  combine (G m c ⟨(i 0 : ℕ), (i 0).isLt⟩) (P m c ⟨(i 0 : ℕ), (i 0).isLt⟩) ⟨(i 2 : ℕ), (i 2).isLt⟩
    ⟨(i 1 : ℕ) / 160, lt2560 i⟩ ((i 1 : ℕ) % 160)

/-- The dispatching marks of all batches, experts' slots stacked. -/
def dispArr : Vec Ideal S4x2560x2048 .f32 := fun i =>
  dispatch (G m c ⟨(i 0 : ℕ), (i 0).isLt⟩) (P m c ⟨(i 0 : ℕ), (i 0).isLt⟩) ⟨(i 2 : ℕ), (i 2).isLt⟩
    ⟨(i 1 : ℕ) / 160, lt2560 i⟩ ((i 1 : ℕ) % 160)

/-- The array's index of a point's block index. -/
theorem read_at (f : Fin 4 → Fin 2048 → Fin 16 → ℕ → EReal) (t : Fin cfg0.N) (y : S1x2560x512.Idx) (i : S4x2560x2048.Idx)
    (h0 : (i 0 : ℕ) = t.val / 4) (h1 : (i 1 : ℕ) = (y 1 : ℕ)) (h2 : (i 2 : ℕ) = 512 * (t.val % 4) + (y 2 : ℕ))
    (hk : (y 1 : ℕ) / 160 < 16) (h3 : (y 2 : ℕ) < 512) :
    f (bt t) (tok (qt t) ⟨(y 2 : ℕ), h3⟩) ⟨(y 1 : ℕ) / 160, hk⟩ ((y 1 : ℕ) % 160)
      = f ⟨(i 0 : ℕ), (i 0).isLt⟩ ⟨(i 2 : ℕ), (i 2).isLt⟩ ⟨(i 1 : ℕ) / 160, lt2560 i⟩ ((i 1 : ℕ) % 160) := by
  have e0 : bt t = ⟨(i 0 : ℕ), (i 0).isLt⟩ := Fin.ext h0.symm
  have e1 : (⟨(y 1 : ℕ) / 160, hk⟩ : Fin 16) = ⟨(i 1 : ℕ) / 160, lt2560 i⟩ := Fin.ext (by show (y 1 : ℕ) / 160 = (i 1 : ℕ) / 160; rw [h1])
  have e2 : tok (qt t) ⟨(y 2 : ℕ), h3⟩ = ⟨(i 2 : ℕ), (i 2).isLt⟩ := Fin.ext h2.symm
  rw [e0, e1, e2, ← h1]

/-- At the end the combine array holds every token's weights. -/
theorem final_comb : (dats m 0 c).arrAt 3 cfg0.N = combArr m c := by
  refine (dats m 0 c).arrAt_eq_of_covers 3 _ (by decide +kernel) fun t hf y => ?_
  have h1 : (y 1 : ℕ) < 2560 := (y 1).isLt
  have h2 : (y 2 : ℕ) < 512 := (y 2).isLt
  have h0 : (y 0 : ℕ) < 1 := (y 0).isLt
  blk_simp
  rw [after0_3]
  refine (comb_eq m c t y (by omega) h2).trans (read_at (fun b n e s => combine (G m c b) (P m c b) n e s) t y _ ?_ ?_ ?_ _ h2)
  all_goals (blk_simp [index_at t] <;> try omega)

/-- At the end the dispatch array holds every token's marks. -/
theorem final_disp : (dats m 0 c).arrAt 4 cfg0.N = dispArr m c := by
  refine (dats m 0 c).arrAt_eq_of_covers 4 _ (by decide +kernel) fun t hf y => ?_
  have h1 : (y 1 : ℕ) < 2560 := (y 1).isLt
  have h2 : (y 2 : ℕ) < 512 := (y 2).isLt
  have h0 : (y 0 : ℕ) < 1 := (y 0).isLt
  blk_simp
  rw [after0_4]
  refine (disp_eq m c t y (by omega) h2).trans (read_at (fun b n e s => dispatch (G m c b) (P m c b) n e s) t y _ ?_ ?_ ?_ _ h2)
  all_goals (blk_simp [index_at t] <;> try omega)

/-- The 1-by-1 array has one index. -/
theorem one_idx (j : S1x1.Idx) : j = ix2 0 0 := by
  funext a
  fin_cases a
  · exact Fin.ext (by show (j 0 : ℕ) = 0; have : (j 0 : ℕ) < 1 := (j 0).isLt; omega)
  · exact Fin.ext (by show (j 1 : ℕ) = 0; have : (j 1 : ℕ) < 1 := (j 1).isLt; omega)

/-- The summed balance of the batches. -/
def balArr : Vec Ideal S1x1 .f32 := fun _ => ∑ b : Fin 4, balance (X m c) (W m c) b

/-- The summed squares of the tokens. -/
def zArr : Vec Ideal S1x1 .f32 := fun _ => ∑ b : Fin 4, ∑ n : Fin 2048, lseSq (X m c) (W m c) b n

/-- The batches' balances, in grid order, are all of them. -/
theorem sum_bal : ∑ s ∈ Finset.range 4, balBatch m c s = ∑ b : Fin 4, balance (X m c) (W m c) b := by
  rw [Finset.sum_range]
  refine Finset.sum_congr rfl fun b _ => ?_
  unfold balBatch
  rw [dif_pos b.isLt]

/-- The blocks' squared log-sums, in grid order, are those of all tokens. -/
theorem sum_z : ∑ s ∈ Finset.range 16, zBlock m c s = ∑ b : Fin 4, ∑ n : Fin 2048, lseSq (X m c) (W m c) b n := by
  have h : ∀ b : Fin 4, ∑ n : Fin 2048, lseSq (X m c) (W m c) b n = ∑ q : Fin 4, zBlock m c (4 * (b : ℕ) + (q : ℕ)) := by
    intro b
    rw [sum_blocks]
    refine Finset.sum_congr rfl fun q _ => ?_
    unfold zBlock
    rw [dif_pos (by omega)]
    have e0 : (⟨(4 * (b : ℕ) + (q : ℕ)) / 4, by omega⟩ : Fin 4) = b := Fin.ext (by show (4 * (b : ℕ) + (q : ℕ)) / 4 = b; omega)
    have e1 : (⟨(4 * (b : ℕ) + (q : ℕ)) % 4, by omega⟩ : Fin 4) = q := Fin.ext (by show (4 * (b : ℕ) + (q : ℕ)) % 4 = q; omega)
    rw [e0, e1]
  rw [Finset.sum_congr rfl fun b _ => h b]
  simp only [Fin.sum_univ_four, Finset.sum_range_succ, Finset.sum_range_zero, zero_add, ← add_assoc]
  rfl

/-- The last grid step leaves the balance of all batches. -/
theorem last_bal (j : S1x1.Idx) : (outsAt0 m c t0_15.val t0_15.isLt).2.2.1 j = ∑ b : Fin 4, balance (X m c) (W m c) b := by
  rw [one_idx j, out_bal (inv_at m c t0_15)]
  exact sum_bal m c

/-- The last grid step leaves the squared log-sums of all tokens. -/
theorem last_z (j : S1x1.Idx) :
    (outsAt0 m c t0_15.val t0_15.isLt).2.2.2.1 j = ∑ b : Fin 4, ∑ n : Fin 2048, lseSq (X m c) (W m c) b n := by
  rw [one_idx j, out_z (inv_at m c t0_15)]
  exact sum_z m c

/-- At the end the balance cell holds the sum over the batches. -/
theorem final_bal : (dats m 0 c).arrAt 5 cfg0.N = balArr m c := by
  refine (dats m 0 c).arrAt_eq_of_after_last 5 t0_15 (by decide +kernel) _ fun j => ?_
  blk_simp
  rw [after0_5]
  exact last_bal m c _

/-- At the end the z cell holds the sum over all tokens. -/
theorem final_z : (dats m 0 c).arrAt 6 cfg0.N = zArr m c := by
  refine (dats m 0 c).arrAt_eq_of_after_last 6 t0_15 (by decide +kernel) _ fun j => ?_
  blk_simp
  rw [after0_6]
  exact last_z m c _

end Cert.KernelIdeal.State

end
-- ==== Proof.KTail.lean ====
/- The kernel's run: what its four results are. -/
module

public import proofs.«01_k».proof.Proof.KFinal

@[expose] public section

set_option maxRecDepth 16384

noncomputable section

open Idealize.ShloMosaic Idealize.ShloMosaic.TcCoe Idealize.SL.Sem

namespace Cert.KernelIdeal.State

open Cert.KernelIdeal Cert.KernelIdeal.Gen Gating Block Outs

variable (m : (ℓ : Loc nD τ sig) → Buf (Elt Ideal) ℓ) (c : Dev nD)

/-- The memory the kernel's call leaves, of which the operations after it are computed. -/
abbrev left : Valuation τ sig (Elt Ideal) :=
  Pipeline.withArrays spec0 c (V0 m c) (fun w => (dats m 0 c).arrAt w cfg0.N)

/-- The launch leaves the combine array. -/
theorem left_comb : left m c (Proc.tc.devRef main_v1_0) = combArr m c :=
  (Pipeline.withArrays_arr spec0 (by decide) c (V0 m c) (fun w => (dats m 0 c).arrAt w cfg0.N) 3).trans (final_comb m c)

/-- The launch leaves the dispatch array. -/
theorem left_disp : left m c (Proc.tc.devRef main_v1_1) = dispArr m c :=
  (Pipeline.withArrays_arr spec0 (by decide) c (V0 m c) (fun w => (dats m 0 c).arrAt w cfg0.N) 4).trans (final_disp m c)

/-- The launch leaves the balance cell. -/
theorem left_bal : left m c (Proc.tc.devRef main_v1_2) = balArr m c :=
  (Pipeline.withArrays_arr spec0 (by decide) c (V0 m c) (fun w => (dats m 0 c).arrAt w cfg0.N) 5).trans (final_bal m c)

/-- The launch leaves the z cell. -/
theorem left_z : left m c (Proc.tc.devRef main_v1_3) = zArr m c :=
  (Pipeline.withArrays_arr spec0 (by decide) c (V0 m c) (fun w => (dats m 0 c).arrAt w cfg0.N) 6).trans (final_z m c)

/-- The combining weights, token by token. -/
def outComb : Vec Ideal S4x2048x16x160 .f32 := fun i =>
  combine (G m c ⟨(i 0 : ℕ), (i 0).isLt⟩) (P m c ⟨(i 0 : ℕ), (i 0).isLt⟩) ⟨(i 1 : ℕ), (i 1).isLt⟩ ⟨(i 2 : ℕ), (i 2).isLt⟩ (i 3 : ℕ)

/-- The dispatching marks, token by token. -/
def outDisp : Vec Ideal S4x2048x16x160 .f32 := fun i =>
  dispatch (G m c ⟨(i 0 : ℕ), (i 0).isLt⟩) (P m c ⟨(i 0 : ℕ), (i 0).isLt⟩) ⟨(i 1 : ℕ), (i 1).isLt⟩ ⟨(i 2 : ℕ), (i 2).isLt⟩ (i 3 : ℕ)

/-- The scaled balance loss. -/
def outBal : Vec Ideal S_ .f32 := fun _ => (∑ b : Fin 4, balance (X m c) (W m c) b) * Ideal.ofBits .f32 0x35800000#32

/-- The averaged z loss. -/
def outZ : Vec Ideal S_ .f32 := fun _ =>
  Ideal.div (∑ b : Fin 4, ∑ n : Fin 2048, lseSq (X m c) (W m c) b n) (Ideal.ofBits .f32 0x46000000#32)

/-- The stacked slots, taken apart and put last. -/
theorem unstack (f : Fin 4 → Fin 2048 → Fin 16 → ℕ → EReal) (A : Vec Ideal S4x2560x2048 .f32)
    (hA : ∀ i, A i = f ⟨(i 0 : ℕ), (i 0).isLt⟩ ⟨(i 2 : ℕ), (i 2).isLt⟩ ⟨(i 1 : ℕ) / 160, lt2560 i⟩ ((i 1 : ℕ) % 160))
    (b : Fin 4) (n : Fin 2048) (e : Fin 16) (s : Fin 160) :
    transpose S4x2048x16x160 [0, 3, 1, 2] (shapeCast S4x16x160x2048 A shapeCasts_S4x2560x2048_S4x16x160x2048)
        transposes_S4x16x160x2048_S4x2048x16x160_0_3_1_2 (ix4 b n e s) = f b n e (s : ℕ) := by
  pointwise
  refine (hA _).trans ?_
  have h1 : (e : ℕ) * 160 + (s : ℕ) < 2560 := by omega
  have e1 : (⟨((e : ℕ) * 160 + (s : ℕ)) / 160, by omega⟩ : Fin 16) = e := Fin.ext (by show ((e : ℕ) * 160 + (s : ℕ)) / 160 = e; omega)
  have e2 : ((e : ℕ) * 160 + (s : ℕ)) % 160 = s := by omega
  show f b n ⟨((e : ℕ) * 160 + (s : ℕ)) / 160, _⟩ (((e : ℕ) * 160 + (s : ℕ)) % 160) = _
  rw [e1, e2]

/-- The combine result: the array unstacked and turned to its token-major shape. -/
theorem tail_comb : Pipeline.afterTail₀ cfgs (dats m) 0 (V0 m) [hostOps1] c main_v3 = outComb m c := by
  have h : Pipeline.afterTail₀ cfgs (dats m) 0 (V0 m) [hostOps1] c main_v3
      = transpose S4x2048x16x160 [0, 3, 1, 2] (shapeCast S4x16x160x2048 (combArr m c) shapeCasts_S4x2560x2048_S4x16x160x2048)
        transposes_S4x16x160x2048_S4x2048x16x160_0_3_1_2 := by
    rw [← left_comb]
    show StableHlo.after hostOps1 (left m c) (Proc.tc.devRef main_v3) = _
    generalize left m c = V
    after_results
    rfl
  rw [h]
  funext i
  idx_vars i
  exact unstack (fun b n e s => combine (G m c b) (P m c b) n e s) (combArr m c) (fun _ => rfl) _ _ _ _

/-- The dispatch result: the array unstacked and turned to its token-major shape. -/
theorem tail_disp : Pipeline.afterTail₀ cfgs (dats m) 0 (V0 m) [hostOps1] c main_v5 = outDisp m c := by
  have h : Pipeline.afterTail₀ cfgs (dats m) 0 (V0 m) [hostOps1] c main_v5
      = transpose S4x2048x16x160 [0, 3, 1, 2] (shapeCast S4x16x160x2048 (dispArr m c) shapeCasts_S4x2560x2048_S4x16x160x2048)
        transposes_S4x16x160x2048_S4x2048x16x160_0_3_1_2 := by
    rw [← left_disp]
    show StableHlo.after hostOps1 (left m c) (Proc.tc.devRef main_v5) = _
    generalize left m c = V
    after_results
    rfl
  rw [h]
  funext i
  idx_vars i
  exact unstack (fun b n e s => dispatch (G m c b) (P m c b) n e s) (dispArr m c) (fun _ => rfl) _ _ _ _

/-- The balance result: the cell scaled. -/
theorem tail_bal : Pipeline.afterTail₀ cfgs (dats m) 0 (V0 m) [hostOps1] c main_v7 = outBal m c := by
  have h : Pipeline.afterTail₀ cfgs (dats m) 0 (V0 m) [hostOps1] c main_v7
      = mulf (F := Ideal) (φ := .f32) (shapeCast S_ (balArr m c) shapeCasts_S1x1_S_) (constant S_ .f32 0x35800000#32) := by
    rw [← left_bal]
    show StableHlo.after hostOps1 (left m c) (Proc.tc.devRef main_v7) = _
    generalize left m c = V
    after_results
    rfl
  rw [h]
  rfl

/-- The z result: the cell divided by the number of tokens. -/
theorem tail_z : Pipeline.afterTail₀ cfgs (dats m) 0 (V0 m) [hostOps1] c main_v9 = outZ m c := by
  have h : Pipeline.afterTail₀ cfgs (dats m) 0 (V0 m) [hostOps1] c main_v9
      = Host.divf (F := Ideal) (φ := .f32) (shapeCast S_ (zArr m c) shapeCasts_S1x1_S_) (constant S_ .f32 0x46000000#32) := by
    rw [← left_z]
    show StableHlo.after hostOps1 (left m c) (Proc.tc.devRef main_v9) = _
    generalize left m c = V
    after_results
    rfl
  rw [h]
  rfl

/-- The kernel's run: its results, its arguments unchanged. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v5) = outDisp m c
    ∧ r.2.mem ((c.tc : Thread nD τ).loc main_v3) = outComb m c
    ∧ r.2.mem ((c.tc : Thread nD τ).loc main_v7) = outBal m c
    ∧ r.2.mem ((c.tc : Thread nD τ).loc main_v9) = outZ m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨
    ((h c).2 main_v5 (Pipeline.mem_restRefs_of main_v5 (by decide) (by decide))).trans (tail_disp m c),
    ((h c).2 main_v3 (Pipeline.mem_restRefs_of main_v3 (by decide) (by decide))).trans (tail_comb m c),
    ((h c).2 main_v7 (Pipeline.mem_restRefs_of main_v7 (by decide) (by decide))).trans (tail_bal m c),
    ((h c).2 main_v9 (Pipeline.mem_restRefs_of main_v9 (by decide) (by decide))).trans (tail_z m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c)⟩)
    (run_main m ρ)

end Cert.KernelIdeal.State

end
-- ==== Proof.TopTwo.lean ====
/- A stable sort of a row, greatest first, puts the best expert at position 0 and the second-best at position 1. -/
module

public import proofs.«01_k».proof.Proof.Rows
public import Idealize.ShloMosaic.Lib.SortFacts

@[expose] public section

noncomputable section

open Idealize.ShloMosaic

namespace Gating

/-- `a` comes before `b`: a greater value, or an equal one at a smaller index. -/
def Ahead (g : Row) (a b : Fin 16) : Prop := g b < g a ∨ (g b ≤ g a ∧ a < b)

/-- The comparison "has a greater value", as a truth value. -/
def gtB (g : Row) (a b : Fin 16) : Bool := decide (g b < g a)

/-- What an inserted list holds: the entry and the list's own. -/
theorem mem_insertBefore (g : Row) (a : Fin 16) (l : List (Fin 16)) (x : Fin 16) :
    x ∈ insertBefore (gtB g) a l ↔ x = a ∨ x ∈ l := by
  rw [(perm_insertBefore (gtB g) a l).mem_iff, List.mem_cons]

/-- Inserting an index smaller than all of an ordered list's keeps the list ordered. -/
theorem ahead_insert (g : Row) (a : Fin 16) (l : List (Fin 16)) (hl : l.Pairwise (Ahead g)) (ha : ∀ b ∈ l, a < b) :
    (insertBefore (gtB g) a l).Pairwise (Ahead g) := by
  induction l with
  | nil => unfold insertBefore; exact List.pairwise_singleton _ _
  | cons b l ih =>
    rw [List.pairwise_cons] at hl
    unfold insertBefore
    by_cases h : g a < g b
    · rw [if_pos (by simpa [gtB] using h), List.pairwise_cons]
      refine ⟨fun x hx => ?_, ih hl.2 fun y hy => ha y (List.mem_cons_of_mem _ hy)⟩
      rcases (mem_insertBefore g a l x).1 hx with rfl | hx
      · exact .inl h
      · exact hl.1 x hx
    · rw [if_neg (by simpa [gtB] using h), List.pairwise_cons]
      refine ⟨fun x hx => ?_, List.pairwise_cons.2 hl⟩
      have hxb : g x ≤ g b := by
        rcases List.mem_cons.1 hx with rfl | hx
        · exact le_rfl
        · rcases hl.1 x hx with h | h
          · exact h.le
          · exact h.1
      exact .inr ⟨hxb.trans (not_lt.1 h), ha x hx⟩

/-- The stable sort of an increasing list of indices is ordered by value, equal values by index. -/
theorem ahead_sort (g : Row) (l : List (Fin 16)) (hl : l.Pairwise (· < ·)) : (stableSort (gtB g) l).Pairwise (Ahead g) := by
  induction l with
  | nil => exact List.Pairwise.nil
  | cons a l ih =>
    rw [List.pairwise_cons] at hl
    unfold stableSort
    exact ahead_insert g a _ (ih hl.2) fun b hb => hl.1 b ((perm_stableSort (gtB g) l).mem_iff.1 hb)

/-- Of two places of the sorted order, the earlier holds what sorts ahead. -/
theorem ahead_sortedFrom (g : Row) (i j : Fin 16) (h : i < j) :
    Ahead g (sortedFrom (gtB g) i) (sortedFrom (gtB g) j) := by
  have hp : ∀ a b : Fin (sortPositions 16 (gtB g)).length, a < b →
      Ahead g ((sortPositions 16 (gtB g)).get a) ((sortPositions 16 (gtB g)).get b) :=
    List.pairwise_iff_get.mp (ahead_sort g (List.finRange 16) (List.pairwise_lt_finRange 16))
  unfold sortedFrom
  exact hp _ _ (by simp only [Fin.lt_def, Fin.val_cast]; exact h)

/-- Position 0 holds the best expert. -/
theorem sorted_zero (g : Row) : sortedFrom (gtB g) 0 = best g := by
  refine eq_best ⟨fun j => ?_, fun j hj => ?_⟩ <;> obtain ⟨k, rfl⟩ := sortedFrom_surjective (gtB g) j
  · rcases eq_or_ne k 0 with rfl | hk
    · exact le_rfl
    · rcases ahead_sortedFrom g 0 k (Fin.pos_of_ne_zero hk) with h | h
      · exact h.le
      · exact h.1
  · rcases eq_or_ne k 0 with rfl | hk
    · exact absurd hj (lt_irrefl _)
    · rcases ahead_sortedFrom g 0 k (Fin.pos_of_ne_zero hk) with h | h
      · exact h
      · exact absurd hj (not_lt.2 h.2.le)

/-- Position 1 holds the second-best expert, when every value is positive. -/
theorem sorted_one (g : Row) (hg : Pos g) : sortedFrom (gtB g) 1 = second g := by
  have hne : sortedFrom (gtB g) 1 ≠ best g := by
    rw [← sorted_zero]
    exact fun h => absurd (sortedFrom_injective (gtB g) h) (by decide)
  have h1 : rest g (sortedFrom (gtB g) 1) = g (sortedFrom (gtB g) 1) := if_neg hne
  have h0 : rest g (best g) < g (sortedFrom (gtB g) 1) := by
    obtain ⟨r, hr, e⟩ := hg (sortedFrom (gtB g) 1)
    unfold rest
    rw [if_pos rfl, negOne, e, EReal.coe_lt_coe_iff]; linarith
  refine eq_best ⟨fun j => ?_, fun j hj => ?_⟩ <;> rw [h1] <;> by_cases hj0 : j = best g
  · rw [hj0]; exact h0.le
  · have h2 : rest g j = g j := if_neg hj0
    rw [h2]
    obtain ⟨k, rfl⟩ := sortedFrom_surjective (gtB g) j
    have hk : k ≠ 0 := fun h => hj0 (by rw [h, sorted_zero])
    by_cases hk1 : k = 1
    · rw [hk1]
    · rcases ahead_sortedFrom g 1 k (by omega) with h | h
      · exact h.le
      · exact h.1
  · rw [hj0]; exact h0
  · have h2 : rest g j = g j := if_neg hj0
    rw [h2]
    obtain ⟨k, rfl⟩ := sortedFrom_surjective (gtB g) j
    have hk : k ≠ 0 := fun h => hj0 (by rw [h, sorted_zero])
    by_cases hk1 : k = 1
    · rw [hk1] at hj; exact absurd hj (lt_irrefl _)
    · rcases ahead_sortedFrom g 1 k (by omega) with h | h
      · exact h
      · exact absurd hj (not_lt.2 h.2.le)

/-- The total order's "greater" on extended reals, as the sort reads it. -/
theorem cmpTotal_gt (g : Row) :
    (fun k k' : Fin 16 => (FloatOps.cmpfTotal (F := Ideal) (φ := .f32) .gt (g k) (g k') == 1#1)) = gtB g := by
  funext k k'
  unfold gtB
  show (BitVec.ofBool _ == 1#1) = _
  by_cases h : g k' < g k
  · simp [FloatOps.cmpfTotal, CmpDirection.ordered, h]
  · simp [FloatOps.cmpfTotal, CmpDirection.ordered, h]

end Gating

end
-- ==== Proof.RefRow.lean ====
/- The reference's rows: its logits, gates, leading experts and their shares, token by token. -/
module

public import proofs.«01_k».proof.Proof.Gen.ReferenceIdeal.Run
public import proofs.«01_k».proof.Proof.Model
public import proofs.«01_k».proof.Proof.TopTwo
public import proofs.«01_k».proof.Proof.KRow
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.ReferenceIdeal.Value Gating
open Cert.KernelIdeal.Block (ofBool_iff cmpi_eq_ofNat ind_mul_ind)

variable (V : Valuation τ sig (Elt Ideal))

/-- The tokens. -/
def X : Tokens := fun b n d => (V (Proc.devRef .tc main_arg0) : Vec Ideal S4x2048x4096 .f32) (ix3 b n d)
/-- The gating weights. -/
def W : Weights := fun d e => (V (Proc.devRef .tc main_arg1) : Vec Ideal S4096x16 .f32) (ix2 d e)
/-- The draws. -/
def P (b : Fin 4) (n : Fin 2048) : EReal := (V (Proc.devRef .tc main_arg2) : Vec Ideal S4x2048 .f32) (ix2 b n)
/-- A token's logits. -/
abbrev L (b : Fin 4) (n : Fin 2048) : Row := logits (X V) (W V) b n
/-- A token's gates. -/
abbrev G (b : Fin 4) (n : Fin 2048) : Row := gating (X V) (W V) b n

/-- A row's largest entry. -/
theorem max_row (v : FVec Ideal S4x2048x16 .f32) (b : Fin 4) (n : Fin 2048) (h : S4x2048x16.ReducesTo [2] S4x2048) :
    Finset.fold max (Ideal.ofBits .f32 4286578688#32) v {i | h.drop i = ix2 b n} = rowMax fun e => v (ix3 b n e) := by
  have e := Host.reduce_eq_fold (FloatOps.maximumf (F := Ideal) (φ := .f32)) v (fun _ : S_.Idx => Ideal.ofBits .f32 4286578688#32) h (by decide) (ix2 b n)
  refine e.symm.trans ?_
  unfold rowMax
  simp only [pointwise]

/-- The reference's logits. -/
theorem v0_at (b : Fin 4) (n : Fin 2048) (e : Fin 16) : res_main_v0 V (ix3 b n e) = L V b n e := by
  unfold L logits
  refine Eq.trans (b := ∑ d : Fin 4096, X V b n d * W V d e) ?_ (Finset.sum_congr rfl fun d _ => mul_comm _ _)
  unfold X W
  pointwise [res_main_v0]

/-- The largest logit of a token. -/
theorem max_at (b : Fin 4) (n : Fin 2048) (h : S4x2048x16.ReducesTo [2] S4x2048) :
    Finset.fold max (Ideal.ofBits .f32 4286578688#32) (res_main_v0 V) {i | h.drop i = ix2 b n} = rowMax (L V b n) := by
  refine (max_row (res_main_v0 V) b n h).trans (congrArg rowMax (funext fun e => v0_at V b n e))

/-- The shifted exponentials. -/
theorem v7_at (b : Fin 4) (n : Fin 2048) (e : Fin 16) : res_main_v7 V (ix3 b n e) = rowExp (L V b n) e := by
  unfold rowExp
  pointwise [res_main_v7]
  rw [max_at, v0_at, negInf, max_eq_right bot_le]

/-- The reference's gates. -/
theorem v11_at (b : Fin 4) (n : Fin 2048) (e : Fin 16) : res_main_v11 V (ix3 b n e) = G V b n e := by
  unfold G gating gate rowSum
  pointwise [res_main_v11]
  simp only [v7_at]

/-- The largest logit, kept for the log-sum. -/
theorem v103_at (b : Fin 4) (n : Fin 2048) : res_main_v103 V (ix3 b n 0) = rowMax (L V b n) := by
  pointwise [res_main_v103]
  rw [max_at]

/-- The reference's log-sum of exponentials. -/
theorem v110_at (b : Fin 4) (n : Fin 2048) : res_main_v110 V (ix2 b n) = lse (L V b n) := by
  unfold lse rowSum rowExp
  pointwise [res_main_v110]
  simp only [v0_at, v103_at]
  exact add_comm (G := EReal) _ _

/-! ## The two leading experts -/

/-- The entries of a token along the experts. -/
theorem along_at (b : Fin 4) (n : Fin 2048) (k e : Fin 16) :
    (ix3 b n k : S4x2048x16.Idx).along (2 : Fin 3) e = ix3 b n e := by
  funext a; fin_cases a <;> rfl

/-- The leading two entries along the experts. -/
theorem corner_at (b : Fin 4) (n : Fin 2048) (k : Fin 2) {α : Type} (x : S4x2048x16.Idx → α) (h) :
    extractStridedSlice S4x2048x2 (fun _ => 0) x h (ix3 b n k) = x (ix3 b n ⟨k, by omega⟩) := by
  unfold extractStridedSlice
  refine congrArg x (funext fun a => Fin.ext ?_)
  fin_cases a <;> exact Nat.zero_add _

/-- The two leading entries of a row, and their positions. -/
theorem topK_at (v : FVec Ideal S4x2048x16 .f32) (h) (b : Fin 4) (n : Fin 2048) (k : Fin 2) (g : Row) (hv : ∀ e, v (ix3 b n e) = g e) :
    (Host.topK S4x2048x2 2 (FloatOps.cmpfTotal .gt) v h).1 (ix3 b n k) = g (sortedFrom (gtB g) ⟨k, by omega⟩)
    ∧ (Host.topK S4x2048x2 2 (FloatOps.cmpfTotal .gt) v h).2 (ix3 b n k)
      = BitVec.ofNat 32 (sortedFrom (gtB g) ⟨k, by omega⟩ : Fin 16) := by
  rw [← cmpTotal_gt]
  have hp : ∀ (e : Fin 16), (fun k k' : Fin 16 => (FloatOps.cmpfTotal (F := Ideal) (φ := .f32) .gt
      (v ((ix3 b n e : S4x2048x16.Idx).along (2 : Fin 3) k)) (v ((ix3 b n e : S4x2048x16.Idx).along (2 : Fin 3) k')) == 1#1))
      = fun k k' => (FloatOps.cmpfTotal (F := Ideal) (φ := .f32) .gt (g k) (g k') == 1#1) := fun e => by
    funext k k'; rw [along_at, along_at, hv, hv]
  constructor
  · unfold Host.topK
    dsimp only
    rw [corner_at]
    show v ((ix3 b n ⟨k, _⟩ : S4x2048x16.Idx).along (2 : Fin 3) (sortedFrom (n := 16) (fun k k' : Fin 16 => (FloatOps.cmpfTotal (F := Ideal) (φ := .f32) .gt
      (v ((ix3 b n _ : S4x2048x16.Idx).along (2 : Fin 3) k)) (v ((ix3 b n _ : S4x2048x16.Idx).along (2 : Fin 3) k')) == 1#1)) _)) = _
    rw [along_at, hv, hp]
    rfl
  · unfold Host.topK
    dsimp only
    rw [corner_at]
    show iotaInDim S4x2048x16 32 (2 : Fin 3) ((ix3 b n ⟨k, _⟩ : S4x2048x16.Idx).along (2 : Fin 3) (sortedFrom (n := 16) (fun k k' : Fin 16 => (FloatOps.cmpfTotal (F := Ideal) (φ := .f32) .gt
      (v ((ix3 b n _ : S4x2048x16.Idx).along (2 : Fin 3) k)) (v ((ix3 b n _ : S4x2048x16.Idx).along (2 : Fin 3) k')) == 1#1)) _)) = _
    rw [along_at, hp]
    rfl

/-- The first gate is the best one. -/
theorem v13_at (b : Fin 4) (n : Fin 2048) : res_main_v13 V (ix2 b n) = G V b n (best (G V b n)) := by
  rw [← sorted_zero]
  refine Eq.trans (b := res_main_values V (ix3 b n 0)) ?_ (topK_at (res_main_v11 V) _ b n 0 (G V b n) (v11_at V b n)).1
  pointwise [res_main_v13]

/-- The first index is the best expert. -/
theorem v17_at (b : Fin 4) (n : Fin 2048) : res_main_v17 V (ix2 b n) = BitVec.ofNat 32 (best (G V b n) : ℕ) := by
  rw [← sorted_zero]
  refine Eq.trans (b := res_main_indices V (ix3 b n 0)) ?_ (topK_at (res_main_v11 V) _ b n 0 (G V b n) (v11_at V b n)).2
  pointwise [res_main_v17]

/-- The second gate is the best of the rest. -/
theorem v15_at (b : Fin 4) (n : Fin 2048) (h : Pos (G V b n)) : res_main_v15 V (ix2 b n) = rest (G V b n) (second (G V b n)) := by
  rw [rest_second h, ← sorted_one _ h]
  refine Eq.trans (b := res_main_values V (ix3 b n 1)) ?_ (topK_at (res_main_v11 V) _ b n 1 (G V b n) (v11_at V b n)).1
  pointwise [res_main_v15]

/-- The second index is the second expert. -/
theorem v19_at (b : Fin 4) (n : Fin 2048) (h : Pos (G V b n)) : res_main_v19 V (ix2 b n) = BitVec.ofNat 32 (second (G V b n) : ℕ) := by
  rw [← sorted_one _ h]
  refine Eq.trans (b := res_main_indices V (ix3 b n 1)) ?_ (topK_at (res_main_v11 V) _ b n 1 (G V b n) (v11_at V b n)).2
  pointwise [res_main_v19]

/-- The sum that the two gates are normalized by. -/
theorem v24_at (b : Fin 4) (n : Fin 2048) (h : Pos (G V b n)) : res_main_v24 V (ix2 b n) = denom (G V b n) := by
  unfold denom
  pointwise [res_main_v24]
  rw [v13_at, v15_at V b n h]

/-- The second normalized gate. -/
theorem v26_at (b : Fin 4) (n : Fin 2048) (h : Pos (G V b n)) : res_main_v26 V (ix2 b n) = first2 (G V b n) := by
  unfold first2
  pointwise [res_main_v26]
  rw [v24_at V b n h, v15_at V b n h]

/-- A truth value converted to a float is 1 or 0. -/
theorem flag (b : BitVec 1) (P : Prop) (h : b = 1#1 ↔ P) :
    (FloatOps.uitofp (F := Ideal) .f32 b : EReal) = ((ind P : ℕ) : EReal) := by
  have hb : b = 0#1 ∨ b = 1#1 := by clear h; revert b; decide
  rcases hb with rfl | rfl
  · rw [ind_false (fun hp => absurd (h.2 hp) (by decide))]
    show (((0#1 : BitVec 1).toNat : ℝ) : EReal) = _
    simp
  · rw [ind_true (h.1 rfl)]
    show (((1#1 : BitVec 1).toNat : ℝ) : EReal) = _
    simp

/-- An expert's word against the position `e`. -/
theorem expert_eq (a e : Fin 16) : IntOp.cmpi .eq (BitVec.ofNat 32 (a : ℕ)) (BitVec.ofNat 32 (e : ℕ)) = 1#1 ↔ a = e := by
  rw [cmpi_eq_ofNat (by omega) (by omega), Fin.val_inj]

/-- The mark of a token's best expert. -/
theorem v20_at (b : Fin 4) (n : Fin 2048) (e : Fin 16) : res_main_v20 V (ix3 b n e) = ((ind (best (G V b n) = e) : ℕ) : EReal) := by
  pointwise [res_main_v20]
  rw [v17_at]
  exact flag _ _ (expert_eq _ _)

/-- The mark of a routed token's second expert. -/
theorem v43_at (b : Fin 4) (n : Fin 2048) (e : Fin 16) (h : Pos (G V b n)) :
    res_main_v43 V (ix3 b n e) = ((ind (second (G V b n) = e ∧ Routed (P V b n) (G V b n)) : ℕ) : EReal) := by
  rw [← ind_mul_ind, ← flag _ _ (expert_eq _ _), ← v19_at V b n h]
  pointwise [res_main_v43]
  rw [v26_at V b n h, flag _ _ (ofBool_iff _)]
  rfl

end Cert.ReferenceIdeal.Rows

end
-- ==== Proof.RefSlots.lean ====
/- The reference's slots: its running sums as the numbers of earlier tokens, and what it keeps of them. -/
module

public import proofs.«01_k».proof.Proof.RefRow

@[expose] public section

set_option maxRecDepth 16384

noncomputable section

open Idealize.ShloMosaic Idealize.ShloMosaic.TcCoe Idealize.SL.Sem

namespace Gating

/-- One token more. -/
theorem before_succ {M : Type} [AddCommMonoid M] (h : Fin 2048 → M) (n : ℕ) (hn : n < 2048) :
    before h (n + 1) = before h n + h ⟨n, hn⟩ := by
  unfold before
  have key : ∀ i : Fin 2048, (if (i : ℕ) < n + 1 then h i else 0)
      = (if (i : ℕ) < n then h i else 0) + if i = ⟨n, hn⟩ then h ⟨n, hn⟩ else 0 := fun i => by
    by_cases e : i = ⟨n, hn⟩
    · subst e; simp
    · have e' : (i : ℕ) ≠ n := fun q => e (Fin.ext q)
      have : ((i : ℕ) < n + 1) ↔ ((i : ℕ) < n) := by omega
      simp [this, e]
  rw [Finset.sum_congr rfl fun i _ => key i, Finset.sum_add_distrib, Finset.sum_ite_eq' Finset.univ]
  simp

/-- The sequence moved one token later, starting from 0. -/
def later (h : Fin 2048 → EReal) (i : Fin 2048) : EReal := if (i : ℕ) = 0 then 0 else h ⟨(i : ℕ) - 1, by omega⟩

/-- The sum through position `n` of the moved sequence is the sum before `n`. -/
theorem before_later (h : Fin 2048 → EReal) (n : ℕ) (hn : n < 2048) : before (later h) (n + 1) = before h n := by
  induction n with
  | zero => rw [before_succ _ _ hn, before_zero, before_zero]; simp [later]
  | succ n ih =>
    rw [before_succ _ _ hn, ih (by omega), before_succ h n (by omega)]
    simp [later]

/-- A window of all 2048 positions ending at `n` holds the entries through `n`. -/
theorem window_sum (h : Fin 2048 → EReal) (n : ℕ) (hn : n < 2048) :
    (∑ k : Fin 2048, if g : 2047 ≤ n + (k : ℕ) then h ⟨n + (k : ℕ) - 2047, by omega⟩ else 0) = before h (n + 1) := by
  unfold before
  obtain ⟨h', hh⟩ : ∃ h' : ℕ → EReal, ∀ (i : ℕ) (g : i < 2048), h' i = h ⟨i, g⟩ :=
    ⟨fun i => if g : i < 2048 then h ⟨i, g⟩ else 0, fun i g => dif_pos g⟩
  have e1 : ∀ k : Fin 2048, (if g : 2047 ≤ n + (k : ℕ) then h ⟨n + (k : ℕ) - 2047, by omega⟩ else 0)
      = (fun k : ℕ => if 2047 ≤ n + k then h' (n + k - 2047) else 0) k := fun k => by
    by_cases g : 2047 ≤ n + (k : ℕ)
    · simp only [g, dif_pos, if_true]
      exact (hh _ _).symm
    · simp only [g, dif_neg, not_false_eq_true, if_false]
  have e2 : ∀ i : Fin 2048, (if (i : ℕ) < n + 1 then h i else 0) = (fun i : ℕ => if i < n + 1 then h' i else 0) i := fun i => by
    by_cases g : (i : ℕ) < n + 1
    · simp only [g, if_true]
      exact (hh _ _).symm
    · simp only [g, if_false]
  rw [Finset.sum_congr rfl fun k _ => e1 k, Finset.sum_congr rfl fun i _ => e2 i,
    Fin.sum_univ_eq_sum_range (fun k : ℕ => if 2047 ≤ n + k then h' (n + k - 2047) else 0),
    Fin.sum_univ_eq_sum_range (fun i : ℕ => if i < n + 1 then h' i else 0), ← Finset.sum_filter, ← Finset.sum_filter]
  refine Finset.sum_nbij' (fun k => n + k - 2047) (fun i => i + 2047 - n) ?_ ?_ ?_ ?_ ?_ <;>
    intro k hk <;> rw [Finset.mem_filter, Finset.mem_range] at hk <;>
    first
      | (rw [Finset.mem_filter, Finset.mem_range]; omega)
      | rfl
      | (show _ = _; omega)

open Classical in
/-- The first 160 of the tokens at which `Q` holds number at most 160. -/
theorem kept_count (Q : Fin 2048 → Prop) (n : ℕ) (hn : n ≤ 2048) :
    before (fun i => ind (Q i ∧ before (fun j => ind (Q j)) i < 160)) n = min 160 (before (fun j => ind (Q j)) n) := by
  induction n with
  | zero => rw [before_zero, before_zero, Nat.min_zero]
  | succ n ih =>
    rw [before_succ (fun i => ind (Q i ∧ before (fun j => ind (Q j)) i < 160)) n hn, before_succ (fun j => ind (Q j)) n hn, ih (Nat.le_of_lt hn)]
    dsimp only
    generalize before (fun j => ind (Q j)) n = k
    by_cases q : Q ⟨n, hn⟩
    · rw [ind_true q]
      by_cases g : k < 160
      · rw [ind_true ⟨q, g⟩]; omega
      · rw [ind_false fun x => g x.2]; omega
    · rw [ind_false q, ind_false fun x => q x.1]; rfl

end Gating

namespace Cert.ReferenceIdeal.Rows

open Cert.ReferenceIdeal Cert.ReferenceIdeal.Gen Cert.ReferenceIdeal.Value Gating
open Cert.KernelIdeal.Block (ofBool_iff cmpi_eq_ofNat ind_mul_ind mul_ind c160)

/-- A left fold over the positions of a window is the sum over its indices. -/
theorem fold_window (S : Shape) (f : S.Idx → EReal) :
    (List.finRange S.numel).foldl (fun r k => r + f (S.rowMajor.symm k)) 0 = ∑ i : S.Idx, f i := by
  rw [← Equiv.sum_comp S.rowMajor.symm f, Fin.sum_univ_def, List.sum_eq_foldl, List.foldl_map]

/-- A windowed sum from 0: the operand's entries inside the window. -/
theorem window_at {s t : Shape} (window strides lo hi : Fin s.rank → ℕ) (x : s.Idx → EReal) (h : s.ReduceWindows window strides lo hi t) (j : t.Idx) :
    Host.reduceWindow (u := S_) (fun a b : EReal => a + b) window strides lo hi x (fun _ => (0 : EReal)) h (by decide) j
      = ∑ i : Shape.Idx ⟨s.rank, window⟩,
          if hin : ∀ a, lo a ≤ (j (a.cast h.1.symm)).val * strides a + (i a).val ∧ (j (a.cast h.1.symm)).val * strides a + (i a).val - lo a < s.size a
          then x (fun a => ⟨(j (a.cast h.1.symm)).val * strides a + (i a).val - lo a, (hin a).2⟩) else 0 := by
  unfold Host.reduceWindow
  dsimp only
  convert fold_window ⟨s.rank, window⟩ fun i =>
    if hin : ∀ a, lo a ≤ (j (a.cast h.1.symm)).val * strides a + (i a).val ∧ (j (a.cast h.1.symm)).val * strides a + (i a).val - lo a < s.size a
    then x (fun a => ⟨(j (a.cast h.1.symm)).val * strides a + (i a).val - lo a, (hin a).2⟩) else 0

/-- The host's windowed sum from 0. -/
theorem windowAdd_at {s t : Shape} (window strides lo hi : Fin s.rank → ℕ) (x : FVec Ideal s .f32) (init : FVec Ideal S_ .f32)
    (h : s.ReduceWindows window strides lo hi t) (hu : 0 < S_.numel) (h0 : init (Shape.Idx.first hu) = (0 : EReal)) (j : t.Idx) :
    Host.reduceWindowAdd window strides lo hi x init h hu j
      = Host.reduceWindow (u := S_) (fun a b : EReal => a + b) window strides lo hi x (fun _ => (0 : EReal)) h (by decide) j := by
  unfold Host.reduceWindowAdd
  rw [h0, Ideal.hostReduceWindowAdd_def]
  rfl

/-- The indices of a window along the tokens are its positions. -/
def positions : Shape.Idx ⟨3, ![1, 2048, 1]⟩ ≃ Fin 2048 where
  toFun i := i (1 : Fin 3)
  invFun k := (ix3 (0 : Fin 1) k (0 : Fin 1) : Shape.Idx ⟨3, ![1, 2048, 1]⟩)
  left_inv i := by
    funext a
    fin_cases a
    · exact Subsingleton.elim (α := Fin 1) _ _
    · rfl
    · exact Subsingleton.elim (α := Fin 1) _ _
  right_inv k := rfl

/-- A running sum along the tokens, from the initial value 0. -/
theorem cumsum_at (x : FVec Ideal S4x2048x16 .f32) (h : S4x2048x16.ReduceWindows ![1, 2048, 1] ![1, 1, 1] ![0, 2047, 0] ![0, 0, 0] S4x2048x16)
    (b : Fin 4) (n : Fin 2048) (e : Fin 16) :
    Host.reduceWindow (u := S_) (fun a b : EReal => a + b) ![1, 2048, 1] ![1, 1, 1] ![0, 2047, 0] ![0, 0, 0] x (fun _ => (0 : EReal)) h (by decide) (ix3 b n e)
      = before (fun i => x (ix3 b i e)) ((n : ℕ) + 1) := by
  rw [← window_sum _ _ n.isLt, window_at]
  refine Fintype.sum_equiv positions _ _ fun i => ?_
  have h0 : (i (0 : Fin 3) : ℕ) = 0 := congrArg Fin.val (Subsingleton.elim (α := Fin 1) (i (0 : Fin 3)) 0)
  have h2 : (i (2 : Fin 3) : ℕ) = 0 := congrArg Fin.val (Subsingleton.elim (α := Fin 1) (i (2 : Fin 3)) 0)
  have h1 : (i (1 : Fin 3) : ℕ) < 2048 := (i (1 : Fin 3)).isLt
  have hp : (positions i : ℕ) = (i (1 : Fin 3) : ℕ) := rfl
  have hn := n.isLt
  have hb := b.isLt
  have he := e.isLt
  by_cases g : 2047 ≤ (n : ℕ) + (positions i : ℕ)
  · rw [dif_pos g, dif_pos]
    · refine congrArg x (funext fun a => Fin.ext ?_)
      fin_cases a
      · show (b : ℕ) * 1 + (i (0 : Fin 3) : ℕ) - 0 = b; omega
      · show (n : ℕ) * 1 + (i (1 : Fin 3) : ℕ) - 2047 = (n : ℕ) + (positions i : ℕ) - 2047; omega
      · show (e : ℕ) * 1 + (i (2 : Fin 3) : ℕ) - 0 = e; omega
    · intro a
      fin_cases a
      · show 0 ≤ (b : ℕ) * 1 + (i (0 : Fin 3) : ℕ) ∧ (b : ℕ) * 1 + (i (0 : Fin 3) : ℕ) - 0 < 4; omega
      · show 2047 ≤ (n : ℕ) * 1 + (i (1 : Fin 3) : ℕ) ∧ (n : ℕ) * 1 + (i (1 : Fin 3) : ℕ) - 2047 < 2048; omega
      · show 0 ≤ (e : ℕ) * 1 + (i (2 : Fin 3) : ℕ) ∧ (e : ℕ) * 1 + (i (2 : Fin 3) : ℕ) - 0 < 16; omega
  · rw [dif_neg g, dif_neg]
    intro hin
    have q : 2047 ≤ (n : ℕ) * 1 + (i (1 : Fin 3) : ℕ) := (hin (1 : Fin 3)).1
    omega

/-- A sequence moved one token later: a 0 in front, the last token dropped. -/
theorem later_at (x : FVec Ideal S4x2048x16 .f32) (b : Fin 4) (i : Fin 2048) (e : Fin 16) :
    extractStridedSlice S4x2048x16 ![0, 0, 0]
          (pad S4x2049x16 ![0, 1, 0] ![0, 0, 0] ![0, 0, 0] x (sitofp .f32 (constantI S_ 32 0#32))
            pads_S4x2048x16_S4x2049x16_000_100_000 h_S_)
          slices_S4x2049x16_S4x2048x16_0_0_0 (ix3 b i e) = later (fun i => x (ix3 b i e)) i := by
  pointwise
  have hi := i.isLt
  unfold later
  by_cases g : (i : ℕ) = 0
  · rw [if_pos g, dif_neg (by omega)]
    show (((0#32 : BitVec 32).toInt : ℝ) : EReal) = _; simp
  · rw [if_neg g, dif_pos (by omega)]

/-- A running sum over the tokens before the current one. -/
theorem shifted_at (x : FVec Ideal S4x2048x16 .f32) (b : Fin 4) (n : Fin 2048) (e : Fin 16) :
    Host.reduceWindowAdd ![1, 2048, 1] ![1, 1, 1] ![0, 2047, 0] ![0, 0, 0]
        (extractStridedSlice S4x2048x16 ![0, 0, 0]
          (pad S4x2049x16 ![0, 1, 0] ![0, 0, 0] ![0, 0, 0] x (sitofp (F := Ideal) .f32 (constantI S_ 32 0#32))
            pads_S4x2048x16_S4x2049x16_000_100_000 h_S_)
          slices_S4x2049x16_S4x2048x16_0_0_0)
        (broadcastInDim S_ ![] bcast_S_S_ (constant (F := Ideal) S_ .f32 0#32))
        reduceWindows_S4x2048x16_S4x2048x16_w1s1p0_0_w2048s1p2047_0_w1s1p0_0 h_S_ (ix3 b n e)
      = before (fun i => x (ix3 b i e)) n := by
  have h0 : Ideal.ofBits .f32 0#32 = 0 := by simp [Ideal.ofBits, Ideal.ieee]
  rw [windowAdd_at _ _ _ _ _ _ _ _ h0, cumsum_at, funext (later_at x b · e), before_later _ _ n.isLt]

/-! ## The first choice -/

/-- A mark at one expert, summed over the experts. -/
theorem sum_mark (a : Fin 16) (c : EReal) : (∑ x : Fin 16, if a = x then c else 0) = c := by
  rw [Finset.sum_ite_eq Finset.univ a, if_pos (Finset.mem_univ _)]

/-- A count below the capacity 160. -/
theorem below_iff (k : ℕ) : (((k : ℕ) : EReal) < Ideal.ofBits .f32 1126170624#32) ↔ k < 160 := by
  rw [c160]; exact Nat.cast_lt

/-- The slot of a token's first choice, at its expert. -/
theorem v47_at (V : Valuation τ sig (Elt Ideal)) (b : Fin 4) (n : Fin 2048) (e : Fin 16) :
    res_main_v47 V (ix3 b n e) = if best (G V b n) = e then ((slot1 (G V b) n : ℕ) : EReal) else 0 := by
  pointwise [res_main_v47]
  rw [shifted_at, v20_at, funext (v20_at V b · e), before_cast, mul_ind]
  by_cases h : best (G V b n) = e
  · rw [if_pos h, if_pos h]; subst h; rfl
  · rw [if_neg h, if_neg h]

/-- The marks of the first choices within the capacity. -/
theorem v51_at (V : Valuation τ sig (Elt Ideal)) (b : Fin 4) (n : Fin 2048) (e : Fin 16) :
    res_main_v51 V (ix3 b n e) = ((ind (best (G V b n) = e ∧ slot1 (G V b) n < 160) : ℕ) : EReal) := by
  pointwise [res_main_v51]
  rw [v20_at, v47_at, flag _ _ (ofBool_iff _), ind_mul_ind]
  by_cases h : best (G V b n) = e
  · rw [if_pos h, below_iff]
  · rw [ind_false fun x => h x.1, ind_false fun x => h x.1]

/-- A truth value marked at one expert, summed over the experts. -/
theorem sum_ind (a : Fin 16) (Q : Prop) : (∑ x : Fin 16, ((ind (a = x ∧ Q) : ℕ) : EReal)) = ((ind Q : ℕ) : EReal) := by
  rw [← sum_mark a ((ind Q : ℕ) : EReal)]
  refine Finset.sum_congr rfl fun x _ => ?_
  by_cases h : a = x
  · rw [if_pos h]; simp only [h, true_and]
  · rw [if_neg h, ind_false fun q => h q.1, Nat.cast_zero]

/-- Whether a token's first choice is within the capacity. -/
theorem v56_at (V : Valuation τ sig (Elt Ideal)) (b : Fin 4) (n : Fin 2048) :
    res_main_v56 V (ix2 b n) = ((ind (slot1 (G V b) n < 160) : ℕ) : EReal) := by
  pointwise [res_main_v56]
  simp only [v51_at]
  exact sum_ind _ _

/-- The slot of a token's first choice. -/
theorem slot1_sum (V : Valuation τ sig (Elt Ideal)) (b : Fin 4) (n : Fin 2048) :
    (Finset.sum (M := EReal) Finset.univ fun e : Fin 16 => res_main_v47 V (ix3 b n e)) = ((slot1 (G V b) n : ℕ) : EReal) := by
  rw [Finset.sum_congr (M := EReal) rfl fun e _ => v47_at V b n e, sum_mark]

/-! ## The second choice -/

/-- How many first choices of expert `e` are kept. -/
def kept (g : Fin 2048 → Row) (e : Fin 16) : ℕ := min 160 (before (fun n => ind (best (g n) = e)) 2048)

/-- The kept first choices of an expert, counted. -/
theorem kept_sum (V : Valuation τ sig (Elt Ideal)) (b : Fin 4) (e : Fin 16) :
    (Finset.sum (M := EReal) Finset.univ fun n : Fin 2048 => res_main_v51 V (ix3 b n e)) = ((kept (G V b) e : ℕ) : EReal) := by
  unfold kept
  rw [← kept_count _ _ le_rfl, before_all, Nat.cast_sum]
  refine Finset.sum_congr (M := EReal) rfl fun n _ => (v51_at V b n e).trans ?_
  by_cases h : best (G V b n) = e
  · subst h; rfl
  · rw [ind_false fun x => h x.1, ind_false fun x => h x.1]

/-- The kept first choices as a share of the tokens. -/
def share (g : Fin 2048 → Row) (e : Fin 16) : ℝ := (kept g e : ℝ) / 2048

/-- The share is not negative. -/
theorem share_nonneg (g : Fin 2048 → Row) (e : Fin 16) : 0 ≤ share g e := by unfold share; positivity

/-- The share is below 1: at most 160 of 2048 first choices are kept. -/
theorem share_lt (g : Fin 2048 → Row) (e : Fin 16) : share g e < 1 := by
  have h : ((kept g e : ℕ) : ℝ) ≤ 160 := by
    have : kept g e ≤ 160 := min_le_left _ _
    exact_mod_cast this
  unfold share
  rw [div_lt_one (by norm_num)]
  linarith

/-- The kept first choices divided by the number of tokens. -/
theorem share_div (g : Fin 2048 → Row) (e : Fin 16) :
    Ideal.div ((kept g e : ℕ) : EReal) (Ideal.ofBits .f32 1157627904#32) = ((share g e : ℝ) : EReal) := by
  have hc : Ideal.ofBits .f32 1157627904#32 = ((2048 : ℝ) : EReal) := by
    simp [Ideal.ofBits, Ideal.ieee, -EReal.coe_mul]; norm_num
  have hk : ((kept g e : ℕ) : EReal) = ((kept g e : ℝ) : EReal) := by norm_cast
  rw [hc, hk, Ideal.div, if_neg (by norm_num), ← EReal.coe_inv, ← EReal.coe_mul]
  rfl

/-- A count with a part below 1 added is below the capacity exactly when the count is. -/
theorem below_add (k : ℕ) (r : ℝ) (h0 : 0 ≤ r) (h1 : r < 1) :
    ((((k : ℝ) + r : ℝ) : EReal) < Ideal.ofBits .f32 1126170624#32) ↔ k < 160 := by
  have hc : ((160 : ℕ) : EReal) = ((160 : ℝ) : EReal) := by norm_cast
  rw [c160, hc, EReal.coe_lt_coe_iff]
  constructor
  · intro h
    have : (k : ℝ) < 160 := by linarith
    exact_mod_cast this
  · intro h
    have : (k : ℝ) + 1 ≤ 160 := by exact_mod_cast h
    linarith

/-- A count with a part below 1 added, converted to a word, is the count. -/
theorem trunc_add (k : ℕ) (hk : k < 2 ^ 31) (r : ℝ) (h0 : 0 ≤ r) (h1 : r < 1) :
    FloatOps.fptosi (F := Ideal) (φ := .f32) 32 (((k : ℝ) + r : ℝ) : EReal) = BitVec.ofNat 32 k := by
  show Ideal.fptosi 32 _ = _
  have hf : ⌊(k : ℝ) + r⌋ = (k : ℤ) := by
    rw [Int.floor_eq_iff]; constructor
    · push_cast; linarith
    · push_cast; linarith
  rw [Ideal.fptosi, Ideal.toIntClamped_coe, if_pos (by positivity), hf]
  have : max (-((2 ^ (32 - 1) : ℕ) : ℤ)) (min (((2 ^ (32 - 1) : ℕ) : ℤ) - 1) (k : ℤ)) = (k : ℤ) := by
    have h2 : ((2 ^ (32 - 1) : ℕ) : ℤ) = 2147483648 := by norm_num
    rw [h2]; omega
  rw [this, BitVec.ofInt_natCast]

section
variable (V : Valuation τ sig (Elt Ideal)) (b : Fin 4) (h : ∀ n, Pos (G V b n))
include h

open Classical in
/-- The second choice's slot, with the share of the expert's kept first choices added. -/
theorem v64_at (n : Fin 2048) (e : Fin 16) :
    res_main_v64 V (ix3 b n e)
      = if second (G V b n) = e ∧ Routed (P V b n) (G V b n) then (((slot2 (G V b) (P V b) n : ℝ) + share (G V b) e : ℝ) : EReal) else 0 := by
  pointwise [res_main_v64]
  rw [shifted_at, v43_at V b n e (h n), funext fun i => v43_at V b i e (h i), before_cast, kept_sum, share_div, mul_ind]
  by_cases q : second (G V b n) = e ∧ Routed (P V b n) (G V b n)
  · rw [if_pos q, if_pos q]
    obtain ⟨rfl, _⟩ := q
    rw [EReal.coe_add]
    congr 1
  · rw [if_neg q, if_neg q]

open Classical in
/-- Whether a token is routed and its second choice within the capacity. -/
theorem v69_at (n : Fin 2048) :
    res_main_v69 V (ix2 b n) = ((ind (Routed (P V b n) (G V b n) ∧ slot2 (G V b) (P V b) n < 160) : ℕ) : EReal) := by
  rw [← sum_ind (second (G V b n))]
  pointwise [res_main_v69]
  refine Finset.sum_congr (M := EReal) rfl fun e _ => ?_
  rw [v43_at V b n e (h n), v64_at V b h, flag _ _ (ofBool_iff _), ind_mul_ind]
  by_cases q : second (G V b n) = e ∧ Routed (P V b n) (G V b n)
  · rw [if_pos q, below_add _ _ (share_nonneg _ _) (share_lt _ _), and_assoc]
  · rw [ind_false fun x => q x.1, ind_false fun x => q ⟨x.1, x.2.1⟩]

open Classical in
/-- A routed token's second slot, with the share added; 0 for another token. -/
theorem slot2_sum (n : Fin 2048) :
    (Finset.sum (M := EReal) Finset.univ fun e : Fin 16 => res_main_v64 V (ix3 b n e))
      = if Routed (P V b n) (G V b n) then (((slot2 (G V b) (P V b) n : ℝ) + share (G V b) (second (G V b n)) : ℝ) : EReal) else 0 := by
  rw [← sum_mark (second (G V b n)) (if Routed (P V b n) (G V b n) then _ else 0)]
  refine Finset.sum_congr (M := EReal) rfl fun e _ => (v64_at V b h n e).trans ?_
  by_cases q : second (G V b n) = e
  · rw [if_pos q]; subst q; simp only [true_and]
  · rw [if_neg q, if_neg fun x => q x.1]

end

end Cert.ReferenceIdeal.Rows

end
-- ==== Proof.RefOut.lean ====
/- The reference's four results. -/
module

public import proofs.«01_k».proof.Proof.RefSlots

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.ReferenceIdeal.Value Gating
open Idealize.ShloMosaic.StableHlo (launchContents)
open Cert.KernelIdeal.Block (ofBool_iff cmpi_eq_ofNat ind_mul_ind mul_ind c160 fptosi_nat)

variable (V : Valuation τ sig (Elt Ideal))

/-- The weights of the slots, as the reference writes them. -/
def combTerm : FVec Ideal S4x2048x16x160 .f32 :=
    addf (mulf (broadcastInDim S4x2048x16x160 ![0, 1, 2, 3] bcast_S4x2048x16x1_S4x2048x16x160_0_1_2_3 (mulf (broadcastInDim
    S4x2048x16x1 ![0, 1, 2, 3] bcast_S4x2048x1x1_S4x2048x16x1_0_1_2_3 (mulf (broadcastInDim S4x2048x1x1 ![0, 1]
    bcast_S4x2048_S4x2048x1x1_0_1 (mulf (Host.divf (res_main_v13 V) (res_main_v24 V)) (res_main_v56 V))) (broadcastInDim S4x2048x1x1
    ![0, 1] bcast_S4x2048_S4x2048x1x1_0_1 (res_main_v56 V)))) (broadcastInDim S4x2048x16x1 ![0, 1, 2]
    bcast_S4x2048x16_S4x2048x16x1_0_1_2 (uitofp .f32 (cmpi .eq (broadcastInDim S4x2048x16 ![0, 1, 2] bcast_S4x2048x1_S4x2048x16_0_1_2
    (broadcastInDim S4x2048x1 ![0, 1] bcast_S4x2048_S4x2048x1_0_1 (res_main_v17 V))) (broadcastInDim S4x2048x16 ![0, 1, 2]
    bcast_S1x1x16_S4x2048x16_0_1_2 (iotaInDim S1x1x16 32 2))))))) (broadcastInDim S4x2048x16x160 ![0, 1, 2, 3]
    bcast_S4x2048x1x160_S4x2048x16x160_0_1_2_3 (broadcastInDim S4x2048x1x160 ![0, 1, 3] bcast_S4x2048x160_S4x2048x1x160_0_1_3 (uitofp
    .f32 (cmpi .eq (broadcastInDim S4x2048x160 ![0, 1, 2] bcast_S4x2048x1_S4x2048x160_0_1_2 (broadcastInDim S4x2048x1 ![0, 1]
    bcast_S4x2048_S4x2048x1_0_1 (fptosi 32 (Host.reduceAdd (res_main_v47 V) (constant S_ .f32 0x00000000#32)
    reducesTo_S4x2048x16_S4x2048_d2 h_S_)))) (broadcastInDim S4x2048x160 ![0, 1, 2] bcast_S1x1x160_S4x2048x160_0_1_2 (iotaInDim
    S1x1x160 32 2))))))) (mulf (broadcastInDim S4x2048x16x160 ![0, 1, 2, 3] bcast_S4x2048x16x1_S4x2048x16x160_0_1_2_3 (mulf
    (broadcastInDim S4x2048x16x1 ![0, 1, 2, 3] bcast_S4x2048x1x1_S4x2048x16x1_0_1_2_3 (mulf (broadcastInDim S4x2048x1x1 ![0, 1]
    bcast_S4x2048_S4x2048x1x1_0_1 (mulf (res_main_v26 V) (res_main_v69 V))) (broadcastInDim S4x2048x1x1 ![0, 1]
    bcast_S4x2048_S4x2048x1x1_0_1 (res_main_v69 V)))) (broadcastInDim S4x2048x16x1 ![0, 1, 2] bcast_S4x2048x16_S4x2048x16x1_0_1_2
    (uitofp .f32 (cmpi .eq (broadcastInDim S4x2048x16 ![0, 1, 2] bcast_S4x2048x1_S4x2048x16_0_1_2 (broadcastInDim S4x2048x1 ![0, 1]
    bcast_S4x2048_S4x2048x1_0_1 (res_main_v19 V))) (broadcastInDim S4x2048x16 ![0, 1, 2] bcast_S1x1x16_S4x2048x16_0_1_2 (iotaInDim
    S1x1x16 32 2))))))) (broadcastInDim S4x2048x16x160 ![0, 1, 2, 3] bcast_S4x2048x1x160_S4x2048x16x160_0_1_2_3 (broadcastInDim
    S4x2048x1x160 ![0, 1, 3] bcast_S4x2048x160_S4x2048x1x160_0_1_3 (uitofp .f32 (cmpi .eq (broadcastInDim S4x2048x160 ![0, 1, 2]
    bcast_S4x2048x1_S4x2048x160_0_1_2 (broadcastInDim S4x2048x1 ![0, 1] bcast_S4x2048_S4x2048x1_0_1 (fptosi 32 (Host.reduceAdd
    (res_main_v64 V) (constant S_ .f32 0x00000000#32) reducesTo_S4x2048x16_S4x2048_d2 h_S_)))) (broadcastInDim S4x2048x160 ![0, 1, 2]
    bcast_S1x1x160_S4x2048x160_0_1_2 (iotaInDim S1x1x160 32 2)))))))

/-- The marks of the slots, as the reference writes them. -/
def dispTerm : FVec Ideal S4x2048x16x160 .f32 :=
    uitofp .f32 (cmpf .une (combTerm V) (broadcastInDim S4x2048x16x160 ![] bcast_S_S4x2048x16x160 (constant S_ .f32 0x00000000#32)))

/-- The balance, as the reference writes it. -/
def balTerm : FVec Ideal S_ .f32 :=
    mulf (Host.divf (Host.reduceAdd (mulf (Host.divf (Host.reduceAdd (res_main_v11 V) (constant S_ .f32 0x00000000#32)
    reducesTo_S4x2048x16_S4x16_d1 h_S_) (broadcastInDim S4x16 ![] bcast_S_S4x16 (constant S_ .f32 0x45000000#32))) (Host.divf
    (Host.reduceAdd (res_main_v20 V) (constant S_ .f32 0x00000000#32) reducesTo_S4x2048x16_S4x16_d1 h_S_) (broadcastInDim S4x16 ![]
    bcast_S_S4x16 (constant S_ .f32 0x45000000#32)))) (constant S_ .f32 0x00000000#32) reducesTo_S4x16_S_d0_1 h_S_) (constant S_ .f32
    0x42800000#32)) (constant S_ .f32 0x43800000#32)

/-- The mean of the squared log-sums, as the reference writes it. -/
def zTerm : FVec Ideal S_ .f32 :=
    Host.divf (Host.reduceAdd (mulf (res_main_v110 V) (res_main_v110 V)) (constant S_ .f32 0x00000000#32) reducesTo_S4x2048_S_d0_1
    h_S_) (constant S_ .f32 0x46000000#32)

/-- A weight under four truth values, one of them twice. -/
theorem marked (a : EReal) (Q R T D : Prop) [Decidable D] (h : Q ∧ R ∧ T ↔ D) :
    a * ((ind Q : ℕ) : EReal) * ((ind Q : ℕ) : EReal) * ((ind R : ℕ) : EReal) * ((ind T : ℕ) : EReal) = if D then a else 0 := by
  by_cases d : D
  · obtain ⟨q, r, t⟩ := h.2 d
    rw [ind_true q, ind_true r, ind_true t, if_pos d, Nat.cast_one, mul_one, mul_one, mul_one, mul_one]
  · rw [if_neg d]
    by_cases q : Q
    · by_cases r : R
      · rw [ind_false fun t : T => d (h.1 ⟨q, r, t⟩), Nat.cast_zero, mul_zero]
      · rw [ind_false r, Nat.cast_zero, mul_zero, zero_mul]
    · rw [ind_false q, Nat.cast_zero, mul_zero, zero_mul, zero_mul]

/-- The word of a small slot against the position `s`. -/
theorem slot_eq (k : ℕ) (hk : k ≤ 2048) (s : Fin 160) : IntOp.cmpi .eq (BitVec.ofNat 32 k) (BitVec.ofNat 32 (s : ℕ)) = 1#1 ↔ k = s :=
  cmpi_eq_ofNat (by omega) (by omega)

open Classical in
/-- The first choice's weight at expert `e` and slot `s`. -/
theorem first_term (g : Fin 2048 → Row) (n : Fin 2048) (e : Fin 16) (s : Fin 160) :
    Ideal.div (g n (best (g n))) (denom (g n)) * ((ind (slot1 g n < 160) : ℕ) : EReal) * ((ind (slot1 g n < 160) : ℕ) : EReal)
          * FloatOps.uitofp (F := Ideal) .f32 (IntOp.cmpi .eq (BitVec.ofNat 32 (best (g n) : ℕ)) (BitVec.ofNat 32 (e : ℕ)))
        * FloatOps.uitofp (F := Ideal) .f32 (IntOp.cmpi .eq (FloatOps.fptosi (F := Ideal) (φ := .f32) 32 ((slot1 g n : ℕ) : EReal)) (BitVec.ofNat 32 (s : ℕ)))
      = if Fills1 g n e s then first1 (g n) else 0 := by
  have hk : slot1 g n ≤ 2048 := before_ind_le _ _
  rw [fptosi_nat _ (by omega), flag _ _ (expert_eq _ _), flag _ _ (slot_eq _ hk s)]
  refine marked _ _ _ _ _ ⟨fun q => q.2, fun q => ⟨?_, q⟩⟩
  exact lt_of_eq_of_lt q.2 s.isLt

open Classical in
/-- The second choice's weight at expert `e` and slot `s`. -/
theorem second_term (g : Fin 2048 → Row) (p : Fin 2048 → EReal) (n : Fin 2048) (e : Fin 16) (s : Fin 160) :
    first2 (g n) * ((ind (Routed (p n) (g n) ∧ slot2 g p n < 160) : ℕ) : EReal) * ((ind (Routed (p n) (g n) ∧ slot2 g p n < 160) : ℕ) : EReal)
          * FloatOps.uitofp (F := Ideal) .f32 (IntOp.cmpi .eq (BitVec.ofNat 32 (second (g n) : ℕ)) (BitVec.ofNat 32 (e : ℕ)))
        * FloatOps.uitofp (F := Ideal) .f32 (IntOp.cmpi .eq (FloatOps.fptosi (F := Ideal) (φ := .f32) 32
            (if Routed (p n) (g n) then (((slot2 g p n : ℝ) + share g (second (g n)) : ℝ) : EReal) else 0)) (BitVec.ofNat 32 (s : ℕ)))
      = if Fills2 g p n e s then first2 (g n) else 0 := by
  have hk : slot2 g p n ≤ 2048 := before_ind_le _ _
  by_cases r : Routed (p n) (g n)
  · rw [if_pos r, trunc_add _ (by omega) _ (share_nonneg _ _) (share_lt _ _), flag _ _ (expert_eq _ _), flag _ _ (slot_eq _ hk s)]
    refine marked _ _ _ _ _ ⟨fun q => ⟨q.2.1, r, q.2.2⟩, fun q => ⟨⟨r, ?_⟩, q.1, q.2.2⟩⟩
    exact lt_of_eq_of_lt q.2.2 s.isLt
  · rw [ind_false fun q => r q.1, if_neg fun q : Fills2 g p n e s => r q.2.1,
      Nat.cast_zero, mul_zero, zero_mul, zero_mul]

/-- The reference's combine tensor holds every token's weights. -/
theorem comb_at (b : Fin 4) (h : ∀ n, Pos (G V b n)) (n : Fin 2048) (e : Fin 16) (s : Fin 160) :
    combTerm V (ix4 b n e s) = combine (G V b) (P V b) n e s := by
  classical
  unfold combine
  pointwise [combTerm]
  rw [v13_at, v24_at V b n (h n), v26_at V b n (h n), v56_at, v69_at V b h, v17_at, v19_at V b n (h n), slot1_sum, slot2_sum V b h]
  refine (congrArg₂ (fun x y : EReal => x + y) (first_term (G V b) n e s) (second_term (G V b) (P V b) n e s)).trans ?_
  by_cases q2 : Fills2 (G V b) (P V b) n e s
  · have q1 : ¬Fills1 (G V b) n e s := fun q => second_ne (h n) (q2.1.trans q.1.symm)
    rw [if_pos q2, if_neg q1, if_pos q2, zero_add]
  · rw [if_neg q2, if_neg q2, add_zero]

/-- The reference's dispatch tensor holds every token's marks. -/
theorem disp_at (b : Fin 4) (h : ∀ n, Pos (G V b n)) (n : Fin 2048) (e : Fin 16) (s : Fin 160) :
    dispTerm V (ix4 b n e s) = dispatch (G V b) (P V b) n e s := by
  classical
  rw [dispatch_eq _ _ _ _ _ (h n), ← comb_at V b h]
  pointwise [dispTerm]
  refine (flag _ _ (ofBool_iff _)).trans ?_
  by_cases q : (combTerm V (ix4 b n e s) : EReal) ≠ 0
  · rw [ind_true q]; exact Nat.cast_one.trans (if_pos q).symm
  · rw [ind_false q]; exact Nat.cast_zero.trans (if_neg q).symm

/-- The reference's z-loss: the squared log-sums of all tokens over their number. -/
theorem z_at : zTerm V ix0 = Ideal.div (∑ b, ∑ n, lseSq (X V) (W V) b n) (Ideal.ofBits .f32 0x46000000#32) := by
  unfold lseSq
  pointwise [zTerm]
  simp only [v110_at]

/-- A real divided by a real other than 0. -/
theorem div_real (a q : ℝ) (hq : q ≠ 0) : Ideal.div (a : EReal) (q : EReal) = ((a / q : ℝ) : EReal) := by
  rw [Ideal.div, if_neg (by simpa using hq), ← EReal.coe_inv, ← EReal.coe_mul, div_eq_mul_inv]

/-- The divisor of the means over the tokens. -/
theorem c2048 : Ideal.ofBits .f32 1157627904#32 = ((2048 : ℝ) : EReal) := by
  simp [Ideal.ofBits, Ideal.ieee, -EReal.coe_mul]; norm_num
/-- The divisor of the mean over batches and experts. -/
theorem c64 : Ideal.ofBits .f32 1115684864#32 = ((64 : ℝ) : EReal) := by
  simp [Ideal.ofBits, Ideal.ieee, -EReal.coe_mul]; norm_num
/-- The factor of the balance: the number of experts squared. -/
theorem c256 : Ideal.ofBits .f32 1132462080#32 = ((256 : ℝ) : EReal) := by
  simp [Ideal.ofBits, Ideal.ieee, -EReal.coe_mul]; norm_num
/-- The kernel's factor of the balance, 2^-20. -/
theorem cTiny : Ideal.ofBits .f32 897581056#32 = ((1 / 1048576 : ℝ) : EReal) := by
  simp [Ideal.ofBits, Ideal.ieee, -EReal.coe_mul]; norm_num

/-- The means of gates and of counts, multiplied and summed and scaled, are the sums multiplied and scaled once. -/
theorem scale_eq (S C : Fin 4 → Fin 16 → ℝ) :
    Ideal.div (∑ b, ∑ e, Ideal.div (S b e : EReal) (Ideal.ofBits .f32 1157627904#32) * Ideal.div (C b e : EReal) (Ideal.ofBits .f32 1157627904#32))
        (Ideal.ofBits .f32 1115684864#32) * Ideal.ofBits .f32 1132462080#32
      = (∑ b, ∑ e, (S b e : EReal) * (C b e : EReal)) * Ideal.ofBits .f32 897581056#32 := by
  have hl : ∀ b e, Ideal.div (S b e : EReal) (Ideal.ofBits .f32 1157627904#32) * Ideal.div (C b e : EReal) (Ideal.ofBits .f32 1157627904#32)
      = ((S b e / 2048 * (C b e / 2048) : ℝ) : EReal) := fun b e => by
    rw [c2048, div_real _ _ (by norm_num), div_real _ _ (by norm_num), EReal.coe_mul]
  have hr : ∀ b e, (S b e : EReal) * (C b e : EReal) = ((S b e * C b e : ℝ) : EReal) := fun b e => (EReal.coe_mul _ _).symm
  simp only [hl, hr, sum_coe]
  rw [c64, c256, cTiny, div_real _ _ (by norm_num), ← EReal.coe_mul, ← EReal.coe_mul]
  congr 1
  rw [Finset.sum_div, Finset.sum_mul, Finset.sum_mul]
  refine Finset.sum_congr rfl fun b _ => ?_
  rw [Finset.sum_div, Finset.sum_mul, Finset.sum_mul]
  refine Finset.sum_congr rfl fun e _ => ?_
  ring

/-- The reference's balance, scaled as the kernel scales it. -/
theorem bal_at (h : ∀ b n, Pos (G V b n)) : balTerm V ix0 = (∑ b, balance (X V) (W V) b) * Ideal.ofBits .f32 0x35800000#32 := by
  unfold balance gateSum bestCount
  pointwise [balTerm]
  simp only [v11_at, v20_at]
  choose r hr using fun b n e => h b n e
  have hS : ∀ b e, (∑ n, G V b n e) = ((∑ n, r b n e : ℝ) : EReal) := fun b e => by
    rw [← sum_coe]; exact Finset.sum_congr rfl fun n _ => (hr b n e).2
  have hC : ∀ b e, (∑ n, ((ind (best (G V b n) = e) : ℕ) : EReal)) = ((∑ n, ((ind (best (G V b n) = e) : ℕ) : ℝ) : ℝ) : EReal) := fun b e => by
    rw [← sum_coe]; exact Finset.sum_congr rfl fun n _ => by norm_cast
  simp only [hS, hC]
  exact scale_eq _ _

/-- The reference's run: its results as these terms, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v101) = dispTerm (launchContents m c)
      ∧ r.2.mem ((c.tc : Thread nD τ).loc main_v98) = combTerm (launchContents m c)
      ∧ r.2.mem ((c.tc : Thread nD τ).loc main_v36) = balTerm (launchContents m c)
      ∧ r.2.mem ((c.tc : Thread nD τ).loc main_v113) = zTerm (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.ReferenceIdeal.Rows

end
-- ==== Proof.Finite.lean ====
/- Finite inputs: every entry is a real number, hence so is every logit, and every gate is positive. -/
module

public import proofs.«01_k».proof.Proof.Gen.Pre_finite_inputs
public import proofs.«01_k».proof.Proof.Model
public import Idealize.ShloMosaic.Lib.ReduceAll
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Finite

open Cert.Pre_finite_inputs Gating

/-- The word 0x7F800000 is infinity. -/
theorem posInf : Ideal.ofBits .f32 0x7F800000#32 = ⊤ := by
  simp [Ideal.ofBits, Ideal.ieee]

/-- A value whose magnitude is below infinity is a real. -/
theorem real_of (x : EReal) (h : max x (-x) < ⊤) : ∃ r : ℝ, x = (r : EReal) := by
  induction x with
  | bot => simp at h
  | coe r => exact ⟨r, rfl⟩
  | top => simp at h

/-- A conjunction of two truth values is true exactly when both are. -/
theorem andi_one (a b : BitVec 1) : IntOp.andi a b = 1#1 ↔ a = 1#1 ∧ b = 1#1 := by revert a b; decide

/-- A statement whose truth value is 1 holds. -/
theorem bool_one (P : Prop) [Decidable P] (h : BitVec.ofBool (decide P) = 1#1) : P := by
  by_contra q; rw [decide_eq_false q] at h; exact absurd h (by decide)

/-- An array all of whose entries pass the test is an array of reals. -/
theorem array_real {s : Shape} {axes : List (Fin s.rank)} (x : FVec Ideal s .f32) (hb : S_.BroadcastsInDim s ![]) (hr : s.ReducesTo axes S_) (hu : 0 < S_.numel)
    (h : Host.reduce IntOp.andi (cmpf .olt (Host.absf x) (broadcastInDim s ![] hb (constant S_ .f32 0x7F800000#32))) (constantI S_ 1 1#1) hr hu ix0 = 1#1)
    (i : s.Idx) : ∃ r : ℝ, x i = (r : EReal) := by
  haveI : Subsingleton S_.Idx := ⟨fun a b => funext fun k => k.elim0⟩
  have e := Host.reduce_andi_all _ _ hr hu ix0 h i
  refine real_of _ ?_
  rw [← posInf]
  exact bool_one _ e

/-- Inputs that pass the precondition: tokens and weights are real numbers. -/
theorem inputs_real (x : FVec Ideal S4x2048x4096 .f32) (w : FVec Ideal S4096x16 .f32) (p : FVec Ideal S4x2048 .f32)
    (h : fn (F := Ideal) x w p = fun _ => 1#1) :
    (∀ i, ∃ r : ℝ, x i = (r : EReal)) ∧ ∀ i, ∃ r : ℝ, w i = (r : EReal) := by
  have h' := congrFun h ix0
  simp only [fn, andi, andi_one] at h'
  exact ⟨array_real x _ _ _ h'.1, array_real w _ _ _ h'.2⟩

/-- Real tokens and weights have real logits, so positive gates. -/
theorem gating_pos (X : Tokens) (W : Weights) (hX : ∀ b n d, ∃ r : ℝ, X b n d = (r : EReal)) (hW : ∀ d e, ∃ r : ℝ, W d e = (r : EReal))
    (b : Fin 4) (n : Fin 2048) : Pos (gating X W b n) := by
  refine gate_pos fun e => ?_
  choose x hx using hX
  choose w hw using hW
  refine ⟨∑ d : Fin 4096, w d e * x b n d, ?_⟩
  unfold logits
  rw [← sum_coe]
  exact Finset.sum_congr rfl fun d _ => by rw [hx, hw, EReal.coe_mul]

end Cert.Finite

end
-- ==== Proof.Equal.lean ====
/- The equation: on finite inputs the reference's four results are the kernel's. -/
module

public import proofs.«01_k».proof.Proof.KTail
public import proofs.«01_k».proof.Proof.RefOut
public import proofs.«01_k».proof.Proof.Finite

@[expose] public section

set_option maxRecDepth 16384

noncomputable section

open Idealize.ShloMosaic Idealize.ShloMosaic.TcCoe Idealize.SL.Sem

namespace Cert.Equal

open Gating

section
variable (m : (ℓ : Loc KernelIdeal.nD KernelIdeal.τ KernelIdeal.sig) → Buf (Elt Ideal) ℓ)
  (V : Valuation ReferenceIdeal.τ ReferenceIdeal.sig (Elt Ideal)) (c : Dev KernelIdeal.nD)
  (hX : ReferenceIdeal.Rows.X V = KernelIdeal.State.X m c) (hW : ReferenceIdeal.Rows.W V = KernelIdeal.State.W m c)
  (hP : ReferenceIdeal.Rows.P V = KernelIdeal.State.P m c) (h : ∀ b n, Pos (ReferenceIdeal.Rows.G V b n))

include hX hW hP h

/-- On rows of positive gates the combine tensors are equal. -/
theorem comb : ReferenceIdeal.Rows.combTerm V = KernelIdeal.State.outComb m c := by
  funext i
  idx_vars i
  refine (ReferenceIdeal.Rows.comb_at V _ (h _) _ _ _).trans ?_
  rw [show ReferenceIdeal.Rows.G V = gating (ReferenceIdeal.Rows.X V) (ReferenceIdeal.Rows.W V) from rfl, hX, hW, hP]
  rfl

/-- On rows of positive gates the dispatch tensors are equal. -/
theorem disp : ReferenceIdeal.Rows.dispTerm V = KernelIdeal.State.outDisp m c := by
  funext i
  idx_vars i
  refine (ReferenceIdeal.Rows.disp_at V _ (h _) _ _ _).trans ?_
  rw [show ReferenceIdeal.Rows.G V = gating (ReferenceIdeal.Rows.X V) (ReferenceIdeal.Rows.W V) from rfl, hX, hW, hP]
  rfl

omit hP in
/-- On rows of positive gates the balance losses are equal. -/
theorem bal : ReferenceIdeal.Rows.balTerm V = KernelIdeal.State.outBal m c := by
  funext i
  rw [show i = ix0 from funext fun k => k.elim0]
  refine (ReferenceIdeal.Rows.bal_at V h).trans ?_
  rw [hX, hW]
  rfl

omit hP h in
/-- The router z-losses are equal. -/
theorem z : ReferenceIdeal.Rows.zTerm V = KernelIdeal.State.outZ m c := by
  funext i
  rw [show i = ix0 from funext fun k => k.elim0]
  refine (ReferenceIdeal.Rows.z_at V).trans ?_
  rw [hX, hW]
  rfl

end

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_inputs
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel, at the bit patterns, runs and ends quiescent. -/
theorem frame_kernel : Cert.quiescent_Kernel := fun m ρ _ => Cert.Kernel.Gen.frame m ρ

/-- The idealized kernel runs and ends quiescent. -/
theorem frame_ideal : Cert.quiescent_KernelIdeal := fun m ρ _ => Cert.KernelIdeal.Gen.frame m ρ

/-- The reference runs and ends quiescent: it declares no semaphore. -/
theorem frame_reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- On finite inputs the idealized kernel's four results are the reference's. -/
theorem equal : Cert.algebraic_KernelIdeal_ReferenceIdeal_pre_finite_inputs := by
  intro m g m' g' hpre hargs
  refine ⟨fun c => Cert.KernelIdeal.State.outDisp m c, fun c => Cert.KernelIdeal.State.outComb m c,
    fun c => Cert.KernelIdeal.State.outBal m c, fun c => Cert.KernelIdeal.State.outZ m c, Cert.KernelIdeal.State.run m g, ?_⟩
  have hX : ∀ c, Cert.ReferenceIdeal.Rows.X (StableHlo.launchContents m' c) = Cert.KernelIdeal.State.X m c := fun c => by
    funext b n d; exact congrFun (hargs c).1 _
  have hW : ∀ c, Cert.ReferenceIdeal.Rows.W (StableHlo.launchContents m' c) = Cert.KernelIdeal.State.W m c := fun c => by
    funext d e; exact congrFun (hargs c).2.1 _
  have hP : ∀ c, Cert.ReferenceIdeal.Rows.P (StableHlo.launchContents m' c) = Cert.KernelIdeal.State.P m c := fun c => by
    funext b n; exact congrFun (hargs c).2.2 _
  have hG : ∀ c b n, Gating.Pos (Cert.ReferenceIdeal.Rows.G (StableHlo.launchContents m' c) b n) := fun c b n => by
    have hf := Cert.Finite.inputs_real _ _ _ (hpre c)
    refine Cert.Finite.gating_pos _ _ (fun b n d => ?_) (fun d e => ?_) b n
    · rw [hX]; exact hf.1 _
    · rw [hW]; exact hf.2 _
  exact (θ_run Cert.ReferenceIdeal.defs _ _).mono (fun r hr c => ⟨
      (hr c).1.trans (Cert.Equal.disp m _ c (hX c) (hW c) (hP c) (hG c)),
      (hr c).2.1.trans (Cert.Equal.comb m _ c (hX c) (hW c) (hP c) (hG c)),
      (hr c).2.2.1.trans (Cert.Equal.bal m _ c (hX c) (hW c) (hG c)),
      (hr c).2.2.2.1.trans (Cert.Equal.z m _ c (hX c) (hW c)),
      (hr c).2.2.2.2⟩) (Cert.ReferenceIdeal.Rows.run m' g')

/-- The claims together. -/
theorem claim : Cert.Claim :=
  ⟨Cert.Kernel.Gen.facts, Cert.KernelIdeal.Gen.facts, Cert.ReferenceIdeal.Gen.facts, Cert.Pre_finite_inputs.Gen.facts,
    frame_kernel, frame_ideal, fun m ρ _ => frame_ideal m ρ trivial, frame_reference, fun m ρ _ => frame_reference m ρ trivial, trivial, equal⟩

end Cert.Proof

end
